-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exact_products [hPre_exact_products : Cert.Pre_exact_products.Facts] (m : (ℓ : Loc Cert.KernelIdeal.nD Cert.KernelIdeal.τ Cert.KernelIdeal.sig) → Buf (Elt Ideal) ℓ) : Prop :=
  ∀ c : Dev Cert.KernelIdeal.nD,
    (Cert.Pre_exact_products.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exact_products [hPre_exact_products : Cert.Pre_exact_products.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exact_products.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_exact_products [hKernelIdeal : Cert.KernelIdeal.Facts] [hPre_exact_products : Cert.Pre_exact_products.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exact_products m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_exact_products [hReferenceIdeal : Cert.ReferenceIdeal.Facts] [hPre_exact_products : Cert.Pre_exact_products.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exact_products m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "r126" .f32 0x3C020821#32 ((126⁻¹ : ℝ) : EReal)
  ∧ IdealRules.named_const.Statement Cert.KernelIdeal.κ "r254" .f32 0x3B810204#32 ((254⁻¹ : ℝ) : EReal)

def algebraic_KernelIdeal_ReferenceIdeal_pre_exact_products [hKernelIdeal : Cert.KernelIdeal.Facts] [hReferenceIdeal : Cert.ReferenceIdeal.Facts] [hPre_exact_products : Cert.Pre_exact_products.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exact_products m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_exact_products : Cert.Pre_exact_products.Facts),
    quiescent_Kernel (hKernel := hKernel)
    ∧ quiescent_KernelIdeal (hKernelIdeal := hKernelIdeal)
    ∧ quiescent_KernelIdeal_pre_exact_products (hKernelIdeal := hKernelIdeal) (hPre_exact_products := hPre_exact_products)
    ∧ quiescent_ReferenceIdeal (hReferenceIdeal := hReferenceIdeal)
    ∧ quiescent_ReferenceIdeal_pre_exact_products (hReferenceIdeal := hReferenceIdeal) (hPre_exact_products := hPre_exact_products)
    ∧ preserves_Kernel_KernelIdeal
    ∧ algebraic_KernelIdeal_ReferenceIdeal_pre_exact_products (hKernelIdeal := hKernelIdeal) (hReferenceIdeal := hReferenceIdeal) (hPre_exact_products := hPre_exact_products)
-- ==== Pre_exact_products.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  reducesTo_S10000x128_S_d0_1 : S10000x128.ReducesTo [0, 1] S_
  h_S_ : 0 < S_.numel
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x128 .f32) : FVec F S10000x128 .f32 :=
  let v0 : FVec F S10000x128 .f32 := Host.roundeven arg0
  v0

def fn_part2 {F : FTy → Type} [FloatOps F] (main_v10 : FVec F S10000x10000 .f32) (main_v17 : FVec F S10000x128 .f32) (main_v24 : FVec F S10000x128 .f32) (main_v33 : IVec S_ 1) (main_v34 : FVec F S128x128 .f32) : IVec S_ 1 :=
  let main_cst_11 : FVec F S_ .f32 := constant S_ .f32 0x7F800000#32
  let main_v35 : FVec F S128x128 .f32 := broadcastInDim S128x128 ![] bcast_S_S128x128 main_cst_11
  let main_v36 : IVec S128x128 1 := cmpf .olt main_v34 main_v35
  let main_c_12 : IVec S_ 1 := constantI S_ 1 1#1
  let main_v37 : IVec S_ 1 := (fun x v => Host.reduce IntOp.andi x v reducesTo_S128x128_S_d0_1 h_S_) main_v36 main_c_12
  let main_v38 : IVec S_ 1 := andi main_v33 main_v37
  let main_v39 : FVec F S10000x10000 .f32 := Host.absf main_v10
  let main_v40 : FVec F S10000x128 .f32 := Host.absf main_v17
  let main_v41 : FVec F S10000x128 .f32 := (fun l r => Host.dotGeneral dot_S10000x10000_S10000x128_S10000x128_1_0_0_1_n_n none l r) main_v39 main_v40
  let main_cst_13 : FVec F S_ .f32 := constant S_ .f32 0x4C800000#32
  let main_v42 : FVec F S10000x128 .f32 := broadcastInDim S10000x128 ![] bcast_S_S10000x128 main_cst_13
  let main_v43 : IVec S10000x128 1 := cmpf .ole main_v41 main_v42
  let main_c_14 : IVec S_ 1 := constantI S_ 1 1#1
  let main_v44 : IVec S_ 1 := (fun x v => Host.reduce IntOp.andi x v reducesTo_S10000x128_S_d0_1 h_S_) main_v43 main_c_14
  let main_v45 : IVec S_ 1 := andi main_v38 main_v44
  let main_v46 : FVec F S10000x10000 .f32 := Host.absf main_v10
  let main_v47 : FVec F S10000x128 .f32 := Host.absf main_v24
  let main_v48 : FVec F S10000x128 .f32 := (fun l r => Host.dotGeneral dot_S10000x10000_S10000x128_S10000x128_1_0_0_1_n_n none l r) main_v46 main_v47
  let main_cst_15 : FVec F S_ .f32 := constant S_ .f32 0x4C800000#32
  let main_v49 : FVec F S10000x128 .f32 := broadcastInDim S10000x128 ![] bcast_S_S10000x128 main_cst_15
  let main_v50 : IVec S10000x128 1 := cmpf .ole main_v48 main_v49
  let main_c_16 : IVec S_ 1 := constantI S_ 1 1#1
  let main_v51 : IVec S_ 1 := (fun x v => Host.reduce IntOp.andi x v reducesTo_S10000x128_S_d0_1 h_S_) main_v50 main_c_16
  let main_v52 : IVec S_ 1 := andi main_v45 main_v51
  main_v52

def fn_part1 {F : FTy → Type} [FloatOps F] (main_arg0 : FVec F S10000x128 .f32) (main_arg1 : FVec F S10000x10000 .f32) (main_arg2 : FVec F S128x128 .f32) (main_v4 : FVec F S10000x128 .f32) (main_v10 : FVec F S10000x10000 .f32) (main_v14 : FVec F S_ .f32) (main_v15 : FVec F S10000x128 .f32) : IVec S_ 1 :=
  let main_v16 : FVec F S10000x128 .f32 := Host.divf main_v4 main_v15
  let main_v17 : FVec F S10000x128 .f32 := fn_round_0 (F := F) main_v16
  let main_v18 : FVec F S10000x128 .f32 := broadcastInDim S10000x128 ![] bcast_S_S10000x128 main_v14
  let main_v19 : FVec F S10000x128 .f32 := mulf main_v17 main_v18
  let main_v20 : FVec F S10000x128 .f32 := subf main_v4 main_v19
  let main_cst_7 : FVec F S_ .f32 := constant S_ .f32 0x437E0000#32
  let main_v21 : FVec F S_ .f32 := Host.divf main_v14 main_cst_7
  let main_v22 : FVec F S10000x128 .f32 := broadcastInDim S10000x128 ![] bcast_S_S10000x128 main_v21
  let main_v23 : FVec F S10000x128 .f32 := Host.divf main_v20 main_v22
  let main_v24 : FVec F S10000x128 .f32 := fn_round_0 (F := F) main_v23
  let main_v25 : FVec F S10000x128 .f32 := Host.absf main_arg0
  let main_cst_8 : FVec F S_ .f32 := constant S_ .f32 0x7F800000#32
  let main_v26 : FVec F S10000x128 .f32 := broadcastInDim S10000x128 ![] bcast_S_S10000x128 main_cst_8
  let main_v27 : IVec S10000x128 1 := cmpf .olt main_v25 main_v26
  let main_c : IVec S_ 1 := constantI S_ 1 1#1
  let main_v28 : IVec S_ 1 := (fun x v => Host.reduce IntOp.andi x v reducesTo_S10000x128_S_d0_1 h_S_) main_v27 main_c
  let main_v29 : FVec F S10000x10000 .f32 := Host.absf main_arg1
  let main_cst_9 : FVec F S_ .f32 := constant S_ .f32 0x7F800000#32
  let main_v30 : FVec F S10000x10000 .f32 := broadcastInDim S10000x10000 ![] bcast_S_S10000x10000 main_cst_9
  let main_v31 : IVec S10000x10000 1 := cmpf .olt main_v29 main_v30
  let main_c_10 : IVec S_ 1 := constantI S_ 1 1#1
  let main_v32 : IVec S_ 1 := (fun x v => Host.reduce IntOp.andi x v reducesTo_S10000x10000_S_d0_1 h_S_) main_v31 main_c_10
  let main_v33 : IVec S_ 1 := andi main_v28 main_v32
  let main_v34 : FVec F S128x128 .f32 := Host.absf main_arg2
  fn_part2 (F := F) main_v10 main_v17 main_v24 main_v33 main_v34

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := (fun l r => Host.dotGeneral dot_S10000x128_S128x128_S10000x128_1_0_0_1_n_n none l r) main_arg0 main_arg2
  let main_v1 : FVec F S10000x128 .f32 := (fun l r => Host.dotGeneral dot_S10000x10000_S10000x128_S10000x128_1_0_0_1_n_n none l r) main_arg1 main_v0
  let main_cst : FVec F S_ .f32 := constant S_ .f32 0x00000000#32
  let main_v2 : FVec F S10000x128 .f32 := broadcastInDim S10000x128 ![] bcast_S_S10000x128 main_cst
  let main_v3 : FVec F S10000x128 .f32 := maximumf main_v1 main_v2
  let main_v4 : FVec F S10000x128 .f32 := (fun l r => Host.dotGeneral dot_S10000x128_S128x128_S10000x128_1_0_0_1_n_n none l r) main_v3 main_arg3
  let main_cst_0 : FVec F S_ .f32 := constant S_ .f32 0x437E0000#32
  let main_v5 : FVec F S10000x10000 .f32 := broadcastInDim S10000x10000 ![] bcast_S_S10000x10000 main_cst_0
  let main_v6 : FVec F S10000x10000 .f32 := mulf main_arg1 main_v5
  let main_v7 : FVec F S10000x10000 .f32 := fn_round (F := F) main_v6
  let main_cst_1 : FVec F S_ .f32 := constant S_ .f32 0x42FE0000#32
  let main_v8 : FVec F S10000x10000 .f32 := broadcastInDim S10000x10000 ![] bcast_S_S10000x10000 main_cst_1
  let main_v9 : FVec F S10000x10000 .f32 := subf main_v7 main_v8
  let main_cst_2 : FVec F S_ .f32 := constant S_ .f32 0xC3000000#32
  let main_cst_3 : FVec F S_ .f32 := constant S_ .f32 0x42FE0000#32
  let main_v10 : FVec F S10000x10000 .f32 := fn_clip (F := F) main_v9 main_cst_2 main_cst_3
  let main_v11 : FVec F S10000x128 .f32 := Host.absf main_v4
  let main_cst_4 : FVec F S_ .f32 := constant S_ .f32 0xFF800000#32
  let main_v12 : FVec F S_ .f32 := (fun x v => Host.reduce FloatOps.maximumf x v reducesTo_S10000x128_S_d0_1 h_S_) main_v11 main_cst_4
  let main_cst_5 : FVec F S_ .f32 := constant S_ .f32 0x0DA24260#32
  let main_v13 : FVec F S_ .f32 := addf main_v12 main_cst_5
  let main_cst_6 : FVec F S_ .f32 := constant S_ .f32 0x42FC0000#32
  let main_v14 : FVec F S_ .f32 := Host.divf main_v13 main_cst_6
  let main_v15 : FVec F S10000x128 .f32 := broadcastInDim S10000x128 ![] bcast_S_S10000x128 main_v14
  fn_part1 (F := F) main_arg0 main_arg1 main_arg2 main_v4 main_v10 main_v14 main_v15
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩
abbrev S2x128 : Shape := ⟨2, ![2, 128]⟩
abbrev S1x10000x128 : Shape := ⟨3, ![1, 10000, 128]⟩
abbrev S1 : Shape := ⟨1, ![1]⟩
abbrev S1x1x1 : Shape := ⟨3, ![1, 1, 1]⟩
abbrev S128 : Shape := ⟨1, ![128]⟩
abbrev S1x128 : Shape := ⟨2, ![1, 128]⟩

abbrev nBuf : Space → Nat
  | .hbm => 10
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x10000, .i8⟩
  | .hbm, ⟨6, _⟩ => ⟨S10000x128, .i8⟩
  | .hbm, ⟨7, _⟩ => ⟨S10000x128, .i8⟩
  | .hbm, ⟨8, _⟩ => ⟨S2x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S400x128, .f32⟩
  | .local _ .vmem, ⟨6, _⟩ => ⟨S400x128, .f32⟩
  | .local _ .vmem, ⟨7, _⟩ => ⟨S400x10000, .i8⟩
  | .local _ .vmem, ⟨8, _⟩ => ⟨S400x10000, .i8⟩
  | .local _ .vmem, ⟨9, _⟩ => ⟨S10000x128, .f32⟩
  | .local _ .vmem, ⟨10, _⟩ => ⟨S10000x128, .i8⟩
  | .local _ .vmem, ⟨11, _⟩ => ⟨S10000x128, .i8⟩
  | .local _ .vmem, ⟨12, _⟩ => ⟨S2x128, .f32⟩
  | .local _ .vmem, ⟨13, _⟩ => ⟨S400x10000, .i8⟩
  | .local _ .vmem, ⟨14, _⟩ => ⟨S400x10000, .i8⟩
  | .local _ .vmem, ⟨15, _⟩ => ⟨S10000x128, .i8⟩
  | .local _ .vmem, ⟨16, _⟩ => ⟨S10000x128, .i8⟩
  | .local _ .vmem, ⟨17, _⟩ => ⟨S2x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10000x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x128 .i8 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "r126" => some ((126⁻¹ : ℝ) : EReal)
  | "r254" => some ((254⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S128 : Shape := ⟨1, ![128]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x10000, .f32⟩
  | .hbm, ⟨12, _⟩ => ⟨S10000x10000, .f32⟩
  | .hbm, ⟨13, _⟩ => ⟨S10000x10000, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10000x10000, .f32⟩
  | .hbm, ⟨21, _⟩ => ⟨S10000x10000, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S10000x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S_, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000x10000, .f32⟩
  | .hbm, ⟨52, _⟩ => ⟨S10000x10000, .f32⟩
  | .hbm, ⟨53, _⟩ => ⟨S10000x128, .f32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S10000x128, .f32⟩
  | .hbm, ⟨61, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v5e

variable {F : FTy → Type} [FloatOps F]
-- ==== Proof.Pass1.lean ====
/- The first region: what its blocks compute and what its two arrays hold afterwards. -/
module

public import proofs.«01_k».proof.Proof.Gen.KernelIdeal.Frame
public import Idealize.ShloMosaic.Lib.Pipeline.ValueKit
public import Idealize.ShloMosaic.Lib.Pointwise

@[expose] public section

noncomputable section

namespace Cert.Proof

open Cert.KernelIdeal Cert.KernelIdeal.Gen
open Idealize.ShloMosaic Idealize.ShloMosaic.TcCoe
open Idealize.ShloMosaic.Pipeline (Dat Cfg Window)

set_option maxRecDepth 16384

/-- The second layer's support as the kernel orders it: the adjacency times the inputs, times the first
    weights, the positive part, times the second weights. -/
def supportArr (x : Vec Ideal S10000x128 .f32) (a : Vec Ideal S10000x10000 .f32) (w1 w2 : Vec Ideal S128x128 .f32) :
    Vec Ideal S10000x128 .f32 := fun i =>
  ∑ l : Fin 128, max (∑ d : Fin 128, (∑ k : Fin 10000, a (ix2 (i 0) k) * x (ix2 k d)) * w1 (ix2 d l)) 0 * w2 (ix2 l (i 1))

/-- The adjacency's codes: a multiple of 1/254 to nearest, shifted by 127, as a signed byte. -/
def codeArr (a : Vec Ideal S10000x10000 .f32) : Vec Ideal S10000x10000 .i8 := fun i =>
  Ideal.fptosi 8 (Ideal.liftRound Ideal.roundHalfEven (a i * Ideal.ofBits .f32 0x437E0000#32) - Ideal.ofBits .f32 0x42FE0000#32)

/-- One block of the support, at an element. -/
theorem support_block (a : Vec Ideal S400x10000 .f32) (x : Vec Ideal S10000x128 .f32) (w1 w2 : Vec Ideal S128x128 .f32)
    (r : Fin 400) (j : Fin 128) :
    k0_pay1 (F := Ideal) a x w1 w2 (ix2 r j)
      = ∑ l : Fin 128, max (∑ d : Fin 128, (∑ k : Fin 10000, a (ix2 r k) * x (ix2 k d)) * w1 (ix2 d l)) 0 * w2 (ix2 l j) := by
  pointwise [k0_pay1]

/-- One block of the codes, at an element. -/
theorem code_block (a : Vec Ideal S400x10000 .f32) (i : S400x10000.Idx) :
    k0_pay2 (F := Ideal) a i
      = Ideal.fptosi 8 (Ideal.liftRound Ideal.roundHalfEven (a i * Ideal.ofBits .f32 0x437E0000#32) - Ideal.ofBits .f32 0x42FE0000#32) := by
  pointwise [k0_pay2]
  rfl

variable (m : (ℓ : Loc nD τ sig) → Buf (Elt Ideal) ℓ) (ρ : Dev nD → PrngReg)

/-- Where each window of the first region stands at a point: the adjacency and the two results step down a
    block of rows at each point, the other operands stay. -/
theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] := by
  decide +kernel

/-- After the first region its first array holds the support. -/
theorem support_at (c : Dev nD) :
    W1 m ρ c (Proc.devRef .tc main_v0_0) = supportArr (m ((c.tc : Thread nD τ).loc main_arg0)) (m ((c.tc : Thread nD τ).loc main_arg1))
      (m ((c.tc : Thread nD τ).loc main_arg2)) (m ((c.tc : Thread nD τ).loc main_arg3)) := by
  refine (W1_arr m ρ c (4 : Fin 6)).trans ?_
  refine (dat0 (V0 m ρ) c).arrAt_eq_of_covers (4 : Fin 6) _ (by decide +kernel) fun t hf y => ?_
  blk_simp
  rw [after0_4]
  frame_out
  obtain ⟨r, j, rfl⟩ : ∃ (r : Fin 400) (j : Fin 128), y = ix2 r j := ⟨y 0, y 1, eq_ix2 y⟩
  rw [support_block]
  unfold supportArr
  blk_point [iblk0, V0, W0, idx0 t]

/-- After the first region its second array holds the codes. -/
theorem code_at (c : Dev nD) :
    W1 m ρ c (Proc.devRef .tc main_v0_1) = codeArr (m ((c.tc : Thread nD τ).loc main_arg1)) := by
  refine (W1_arr m ρ c (5 : Fin 6)).trans ?_
  refine (dat0 (V0 m ρ) c).arrAt_eq_of_covers (5 : Fin 6) _ (by decide +kernel) fun t hf y => ?_
  blk_simp
  rw [after0_5]
  frame_out
  rw [code_block]
  unfold codeArr
  blk_point [iblk0, V0, W0, idx0 t]

end Cert.Proof

end
-- ==== Proof.Quant.lean ====
/- The second region: one point that splits the support into two signed-byte digits and prepares the two rows the
   third region adds back. -/
module

public import proofs.«01_k».proof.Proof.Gen.KernelIdeal.Frame
public import Idealize.ShloMosaic.Lib.Pipeline.ValueKit
public import Idealize.ShloMosaic.Lib.Pointwise

@[expose] public section

noncomputable section

namespace Cert.Proof

open Cert.KernelIdeal Cert.KernelIdeal.Gen
open Idealize.ShloMosaic Idealize.ShloMosaic.TcCoe
open Idealize.ShloMosaic.Pipeline (Dat Cfg Window)

set_option maxRecDepth 16384

variable (m : (ℓ : Loc nD τ sig) → Buf (Elt Ideal) ℓ) (ρ : Dev nD → PrngReg)

/-- The second region's windows are whole arrays. -/
theorem idx1 : ∀ t : Fin cfg1.N, win1_0.index t = ![0, 0] ∧ win1_1.index t = ![0, 0] ∧ win1_2.index t = ![0, 0]
    ∧ win1_3.index t = ![0, 0] := by
  decide +kernel

/-- The second region reads the support whole. -/
theorem support_read (c : Dev nD) (t : Fin cfg1.N) : iblk1 (V1 m ρ) c 0 t = W1 m ρ c (Proc.devRef .tc main_v0_0) := by
  funext y
  blk_ext [iblk1, V1, idx1 t]

/-- The first digits after the second region. -/
theorem first_digit_at (c : Dev nD) :
    W2 m ρ c (Proc.devRef .tc main_v1_0) = k1_pay6 (F := Ideal) (W1 m ρ c (Proc.devRef .tc main_v0_0)) := by
  refine (W2_arr m ρ c (1 : Fin 4)).trans ?_
  refine (dat1 (V1 m ρ) c).arrAt_eq_of_covers (1 : Fin 4) _ (by decide +kernel) fun t hf y => ?_
  blk_simp
  rw [after1_1]
  frame_out
  rw [support_read]
  blk_ext [idx1 t]

/-- The second digits after the second region. -/
theorem second_digit_at (c : Dev nD) :
    W2 m ρ c (Proc.devRef .tc main_v1_1) = k1_pay7 (F := Ideal) (W1 m ρ c (Proc.devRef .tc main_v0_0)) := by
  refine (W2_arr m ρ c (2 : Fin 4)).trans ?_
  refine (dat1 (V1 m ρ) c).arrAt_eq_of_covers (2 : Fin 4) _ (by decide +kernel) fun t hf y => ?_
  blk_simp
  rw [after1_2]
  frame_out
  rw [support_read]
  blk_ext [idx1 t]

/-- The two added rows after the second region. -/
theorem rows_at (c : Dev nD) :
    W2 m ρ c (Proc.devRef .tc main_v1_2) = k1_pay8 (F := Ideal) (W1 m ρ c (Proc.devRef .tc main_v0_0)) := by
  refine (W2_arr m ρ c (3 : Fin 4)).trans ?_
  refine (dat1 (V1 m ρ) c).arrAt_eq_of_covers (3 : Fin 4) _ (by decide +kernel) fun t hf y => ?_
  blk_simp
  rw [after1_3]
  frame_out
  rw [support_read]
  blk_ext [idx1 t]

/-- The second region leaves the codes as the first wrote them. -/
theorem codes_kept (c : Dev nD) :
    W2 m ρ c (Proc.devRef .tc main_v0_1) = W1 m ρ c (Proc.devRef .tc main_v0_1) :=
  W2_of_ne m ρ c main_v0_1 (by decide)

/-- The kernel's cast of the support to its own shape changes nothing. -/
theorem support_cast (s : Vec Ideal S10000x128 .f32) : k1_pay1 (F := Ideal) s = s := by
  funext i
  obtain ⟨a, b, rfl⟩ : ∃ (a : Fin 10000) (b : Fin 128), i = ix2 a b := ⟨i 0, i 1, eq_ix2 i⟩
  pointwise [k1_pay1]

/-- The largest magnitude of the support, kept off zero. -/
def peak (s : Vec Ideal S10000x128 .f32) : EReal :=
  Finset.fold max (Ideal.ofBits .f32 0xFF800000#32) (fun x : Fin 10000 × Fin 128 => max (s (ix2 x.1 x.2)) (-(s (ix2 x.1 x.2)))) Finset.univ
    + Ideal.ofBits .f32 0x0DA24260#32

/-- The kernel's reduction computes it. -/
theorem peak_eq (s : Vec Ideal S10000x128 .f32) : k1_pay2 (F := Ideal) s = peak s := by
  unfold peak
  simp only [← Ideal.absf_def]
  pointwise [k1_pay2, k1_pay1]

end Cert.Proof

end
-- ==== Proof.Digits.lean ====
/- The second region's values, element by element. -/
module

public import proofs.«01_k».proof.Proof.Quant

@[expose] public section

noncomputable section

namespace Cert.Proof

open Cert.KernelIdeal Cert.KernelIdeal.Gen
open Idealize.ShloMosaic Idealize.ShloMosaic.TcCoe

set_option maxRecDepth 16384

/-- The step of the first digit. -/
def step (s : Vec Ideal S10000x128 .f32) : EReal := peak s * ((126⁻¹ : ℝ) : EReal)

/-- The kernel multiplies by the constant named 1/126. -/
theorem step_eq (s : Vec Ideal S10000x128 .f32) : k1_pay3 (F := Ideal) s = step s := by
  have hn : Named.named (F := Ideal) (φ := .f32) κ "r126" 0x3C020821#32 = ((126⁻¹ : ℝ) : EReal) :=
    IdealRules.named_const.ideal_named_scalar _ _ _ _ rfl
  unfold k1_pay3 step
  dsimp only
  rw [peak_eq, hn, Ideal.scalar_mulf_def]

/-- The number of steps in one unit. -/
def rate (s : Vec Ideal S10000x128 .f32) : EReal := Ideal.div (Ideal.ofBits .f32 0x42FC0000#32) (peak s)

/-- The kernel divides 126 by the peak. -/
theorem rate_eq (s : Vec Ideal S10000x128 .f32) : k1_pay4 (F := Ideal) s = rate s := by
  unfold k1_pay4 rate
  dsimp only
  rw [peak_eq, Ideal.scalar_divf_def, Ideal.ofBits_def]

/-- The first digit as an extended real. -/
def firstDigit (s : Vec Ideal S10000x128 .f32) (i : S10000x128.Idx) : EReal :=
  Ideal.liftRound Ideal.roundHalfEven (s i * rate s)

/-- The second digit as an extended real. -/
def secondDigit (s : Vec Ideal S10000x128 .f32) (i : S10000x128.Idx) : EReal :=
  Ideal.liftRound Ideal.roundHalfEven ((s i - firstDigit s i * step s) * (Ideal.ofBits .f32 0x437E0000#32 * rate s))

/-- A conversion to signed bytes reads element by element. -/
theorem bytes_apply (v : FVec Ideal S10000x128 .f32) (i : S10000x128.Idx) : fptosi 8 v i = Ideal.fptosi 8 (v i) := rfl

/-- A scaled array, rounded, reads element by element. -/
theorem rounded_apply (v : FVec Ideal S10000x128 .f32) (k : EReal) (i : S10000x128.Idx) :
    roundeven (mulf v (broadcast S10000x128 (k : Ideal .f32))) i = Ideal.liftRound Ideal.roundHalfEven (v i * k) := rfl

/-- What an array lacks of a scaled one reads element by element. -/
theorem rest_apply (v w : FVec Ideal S10000x128 .f32) (k : EReal) (i : S10000x128.Idx) :
    subf v (mulf w (broadcast S10000x128 (k : Ideal .f32))) i = v i - w i * k := rfl

/-- The kernel's first digit before its conversion. -/
theorem first_digit_value (s : Vec Ideal S10000x128 .f32) (i : S10000x128.Idx) : k1_pay5 (F := Ideal) s i = firstDigit s i := by
  unfold k1_pay5 firstDigit
  rw [support_cast, ← rate_eq]
  exact rounded_apply _ _ _

/-- The kernel's first digit, as a signed byte. -/
theorem first_digit_word (s : Vec Ideal S10000x128 .f32) (i : S10000x128.Idx) :
    k1_pay6 (F := Ideal) s i = Ideal.fptosi 8 (firstDigit s i) := by
  unfold k1_pay6
  rw [← first_digit_value]
  exact bytes_apply _ _

/-- The kernel's second digit, as a signed byte. -/
theorem second_digit_word (s : Vec Ideal S10000x128 .f32) (i : S10000x128.Idx) :
    k1_pay7 (F := Ideal) s i = Ideal.fptosi 8 (secondDigit s i) := by
  unfold secondDigit
  rw [← first_digit_value, ← step_eq, ← rate_eq]
  dsimp only [k1_pay7]
  rw [support_cast, Ideal.scalar_mulf_def, Ideal.ofBits_def]
  generalize k1_pay5 (F := Ideal) s = h
  generalize k1_pay3 (F := Ideal) s = d
  generalize k1_pay4 (F := Ideal) s = e
  exact (bytes_apply _ _).trans (congrArg _ ((rounded_apply _ _ _).trans (congrArg _ (congrArg (· * _) (rest_apply _ _ _ _)))))

/-- The two rows the third region adds back: half the support's column sums, and the first digit's step. -/
theorem rows_word (s : Vec Ideal S10000x128 .f32) (i : Fin 2) (j : Fin 128) (d : Ideal .f32) (hd : k1_pay3 (F := Ideal) s = d) :
    k1_pay8 (F := Ideal) s (ix2 i j)
      = if _ : i.val < 1 then Ideal.ofBits .f32 0x3F000000#32 * ∑ k : Fin 10000, s (ix2 k j) else d := by
  unfold k1_pay8
  rw [support_cast, hd]
  pointwise

/-- The first of them. -/
theorem half_sum_row (s : Vec Ideal S10000x128 .f32) (j : Fin 128) :
    k1_pay8 (F := Ideal) s (ix2 0 j) = Ideal.ofBits .f32 0x3F000000#32 * ∑ k : Fin 10000, s (ix2 k j) :=
  (rows_word s 0 j _ rfl).trans (dif_pos Nat.zero_lt_one)

/-- The second. -/
theorem step_row (s : Vec Ideal S10000x128 .f32) (j : Fin 128) : k1_pay8 (F := Ideal) s (ix2 1 j) = step s :=
  (rows_word s 1 j _ (step_eq s)).trans (dif_neg (Nat.lt_irrefl 1))

end Cert.Proof

end
-- ==== Proof.RefStages.lean ====
/- The reference's stages as arrays, and its result as their composition. -/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen
open Idealize.ShloMosaic Idealize.ShloMosaic.TcCoe

set_option maxRecDepth 16384

/-- One float repeated over an array of the nodes' features. -/
def fill (b : FVec Ideal S_ .f32) : FVec Ideal S10000x128 .f32 := broadcastInDim S10000x128 ![] bcast_S_S10000x128 b

/-- One float repeated over an array of the adjacency's shape. -/
def fillAdj (b : FVec Ideal S_ .f32) : FVec Ideal S10000x10000 .f32 := broadcastInDim S10000x10000 ![] bcast_S_S10000x10000 b

/-- The second layer's support. -/
def support (x : FVec Ideal S10000x128 .f32) (a : FVec Ideal S10000x10000 .f32) (w1 w2 : FVec Ideal S128x128 .f32) :
    FVec Ideal S10000x128 .f32 :=
  Host.dotGeneral dot_S10000x128_S128x128_S10000x128_1_0_0_1_n_n none
    (maximumf (Host.dotGeneral dot_S10000x10000_S10000x128_S10000x128_1_0_0_1_n_n none a
      (Host.dotGeneral dot_S10000x128_S128x128_S10000x128_1_0_0_1_n_n none x w1)) (fill (constant S_ .f32 0x00000000#32))) w2

/-- The adjacency's codes. -/
def code (a : FVec Ideal S10000x10000 .f32) : FVec Ideal S10000x10000 .f32 :=
  minimumf (fillAdj (constant S_ .f32 0x42FE0000#32)) (maximumf (fillAdj (constant S_ .f32 0xC3000000#32))
    (subf (Host.roundeven (mulf a (fillAdj (constant S_ .f32 0x437E0000#32)))) (fillAdj (constant S_ .f32 0x42FE0000#32))))

/-- The largest magnitude of the support, kept off zero. -/
def peak (s : FVec Ideal S10000x128 .f32) : FVec Ideal S_ .f32 :=
  addf (Host.reduce FloatOps.maximumf (Host.absf s) (constant S_ .f32 0xFF800000#32) reducesTo_S10000x128_S_d0_1 h_S_)
    (constant S_ .f32 0x0DA24260#32)

/-- The first digit's step, from the peak. -/
def step (p : FVec Ideal S_ .f32) : FVec Ideal S_ .f32 := Host.divf p (constant S_ .f32 0x42FC0000#32)

/-- The second digit's step, from the first's. -/
def fine (d : FVec Ideal S_ .f32) : FVec Ideal S_ .f32 := Host.divf d (constant S_ .f32 0x437E0000#32)

/-- The first digit of the support at a step. -/
def first (s : FVec Ideal S10000x128 .f32) (d : FVec Ideal S_ .f32) : FVec Ideal S10000x128 .f32 :=
  Host.roundeven (Host.divf s (fill d))

/-- The second digit: what the first leaves over, at the finer step. -/
def second (s h : FVec Ideal S10000x128 .f32) (d : FVec Ideal S_ .f32) : FVec Ideal S10000x128 .f32 :=
  Host.roundeven (Host.divf (subf s (mulf h (fill d))) (fill (fine d)))

/-- The result from the codes, the two digits, the step and the support. -/
def result (q : FVec Ideal S10000x10000 .f32) (h l s : FVec Ideal S10000x128 .f32) (d : FVec Ideal S_ .f32) :
    FVec Ideal S10000x128 .f32 :=
  addf (Host.dotGeneral dot_S10000x10000_S10000x128_S10000x128_1_0_0_1_n_n none
      (Host.divf q (fillAdj (constant S_ .f32 0x437E0000#32))) (addf (mulf h (fill d)) (mulf l (fill (fine d)))))
    (broadcastInDim S10000x128 ![0, 1] bcast_S1x128_S10000x128_0_1
      (mulf (broadcastInDim S1x128 ![] bcast_S_S1x128 (constant S_ .f32 0x3F000000#32))
        (broadcastInDim S1x128 ![1] bcast_S128_S1x128_1
          (Host.reduceAdd s (constant S_ .f32 0x00000000#32) reducesTo_S10000x128_S128_d0 h_S_))))

/-- The reference's result is these stages, one after the other. -/
theorem result_stages (m : (ℓ : Loc nD τ sig) → Buf (Elt Ideal) ℓ) (c : Dev nD) :
    Value.res_out0 (F := Ideal) m c =
      (let s := support (m ((c.tc : Thread nD τ).loc main_arg0)) (m ((c.tc : Thread nD τ).loc main_arg1))
        (m ((c.tc : Thread nD τ).loc main_arg2)) (m ((c.tc : Thread nD τ).loc main_arg3))
      let d := step (peak s)
      let h := first s d
      result (code (m ((c.tc : Thread nD τ).loc main_arg1))) h (second s h d) s d) := by
  unfold Value.res_out0 Value.res_main_v39
  rfl

end Cert.Proof.Ref

end
-- ==== Proof.RefPoints.lean ====
/- The reference's stages, element by element. -/
module

public import proofs.«01_k».proof.Proof.RefStages

@[expose] public section

noncomputable section

namespace Cert.Proof.Ref

open Cert.ReferenceIdeal Cert.ReferenceIdeal.Gen
open Idealize.ShloMosaic Idealize.ShloMosaic.TcCoe

set_option maxRecDepth 16384

/-- The support: the weights after the rectified first layer. -/
theorem support_point (x : FVec Ideal S10000x128 .f32) (a : FVec Ideal S10000x10000 .f32) (w1 w2 : FVec Ideal S128x128 .f32)
    (i : Fin 10000) (j : Fin 128) :
    support x a w1 w2 (ix2 i j) = ∑ l : Fin 128,
      max (∑ k : Fin 10000, a (ix2 i k) * ∑ d : Fin 128, x (ix2 k d) * w1 (ix2 d l)) 0 * w2 (ix2 l j) := by
  pointwise [support, fill]

/-- The codes: scaled, rounded, shifted and clipped. -/
theorem code_point (a : FVec Ideal S10000x10000 .f32) (i k : Fin 10000) :
    code a (ix2 i k) = min (Ideal.ofBits .f32 0x42FE0000#32) (max (Ideal.ofBits .f32 0xC3000000#32)
      (Ideal.liftRound Ideal.roundHalfEven (a (ix2 i k) * Ideal.ofBits .f32 0x437E0000#32) - Ideal.ofBits .f32 0x42FE0000#32)) := by
  pointwise [code, fillAdj]

/-- A maximum over both axes of an array. -/
theorem max_all {n0 n1 : ℕ} {t u : Shape} (v : (⟨2, ![n0, n1]⟩ : Shape).Idx → EReal) (b : u.Idx → EReal)
    (h : (⟨2, ![n0, n1]⟩ : Shape).ReducesTo [0, 1] t) (hu : 0 < u.numel) (j : t.Idx) :
    Host.reduce max v b h hu j = Finset.fold max (b (Shape.Idx.first hu)) (fun x : Fin n0 × Fin n1 => v (ix2 x.1 x.2)) Finset.univ := by
  rw [Host.reduce_eq_fold, h.fold_fiber_r2_a01]

/-- Adding two scalars, at the one index. -/
theorem add_scalar (f g : FVec Ideal S_ .f32) : addf f g ix0 = (f ix0 + g ix0 : EReal) := rfl

/-- A magnitude, element by element. -/
theorem abs_apply (s : FVec Ideal S10000x128 .f32) (i : Fin 10000) (j : Fin 128) :
    Host.absf s (ix2 i j) = max (s (ix2 i j) : EReal) (-(s (ix2 i j) : EReal)) := rfl

/-- The peak. -/
theorem peak_point (s : FVec Ideal S10000x128 .f32) :
    peak s ix0 = (Finset.fold max (Ideal.ofBits .f32 0xFF800000#32)
      (fun x : Fin 10000 × Fin 128 => max (s (ix2 x.1 x.2)) (-(s (ix2 x.1 x.2)))) Finset.univ + Ideal.ofBits .f32 0x0DA24260#32 : EReal) := by
  unfold peak
  rw [add_scalar, Ideal.maximumf_eq_max]
  refine congrArg₂ (· + ·) ?_ rfl
  refine (max_all (Host.absf s) (constant (F := Ideal) S_ .f32 0xFF800000#32) reducesTo_S10000x128_S_d0_1 h_S_ ix0).trans ?_
  simp only [abs_apply]
  rfl

/-- The first step. -/
theorem step_point (p : FVec Ideal S_ .f32) : step p ix0 = Ideal.div (p ix0) (Ideal.ofBits .f32 0x42FC0000#32) := by
  pointwise [step]

/-- The first digit. -/
theorem first_point (s : FVec Ideal S10000x128 .f32) (d : FVec Ideal S_ .f32) (i : Fin 10000) (j : Fin 128) :
    first s d (ix2 i j) = Ideal.liftRound Ideal.roundHalfEven (Ideal.div (s (ix2 i j)) (d ix0)) := by
  pointwise [first, fill]

/-- The second digit. -/
theorem second_point (s h : FVec Ideal S10000x128 .f32) (d : FVec Ideal S_ .f32) (i : Fin 10000) (j : Fin 128) :
    second s h d (ix2 i j) = Ideal.liftRound Ideal.roundHalfEven
      (Ideal.div (s (ix2 i j) - h (ix2 i j) * d ix0) (Ideal.div (d ix0) (Ideal.ofBits .f32 0x437E0000#32))) := by
  pointwise [second, fine, fill]

/-- The result. -/
theorem result_point (q : FVec Ideal S10000x10000 .f32) (h l s : FVec Ideal S10000x128 .f32) (d : FVec Ideal S_ .f32)
    (i : Fin 10000) (j : Fin 128) :
    result q h l s d (ix2 i j) =
      (∑ k : Fin 10000, Ideal.div (q (ix2 i k)) (Ideal.ofBits .f32 0x437E0000#32) *
        (h (ix2 k j) * d ix0 + l (ix2 k j) * Ideal.div (d ix0) (Ideal.ofBits .f32 0x437E0000#32))) +
      Ideal.ofBits .f32 0x3F000000#32 * ∑ k : Fin 10000, s (ix2 k j) := by
  pointwise [result, fine, fill, fillAdj]

end Cert.Proof.Ref

end
-- ==== Proof.Consts.lean ====
/- The float constants the two programs and the precondition write, as real numbers. -/
module

public import Idealize.ShloMosaic.Lib.Pointwise

@[expose] public section

noncomputable section

namespace Cert.Proof

open Idealize.ShloMosaic

/-- 254, the codes' scale. -/
theorem c254 : Ideal.ofBits .f32 0x437E0000#32 = ((254 : ℝ) : EReal) := by
  simp [Ideal.ofBits, Ideal.ieee, -EReal.coe_mul]; norm_num

/-- 127, the codes' offset and upper limit. -/
theorem c127 : Ideal.ofBits .f32 0x42FE0000#32 = ((127 : ℝ) : EReal) := by
  simp [Ideal.ofBits, Ideal.ieee, -EReal.coe_mul]; norm_num

/-- −128, the codes' lower limit. -/
theorem cm128 : Ideal.ofBits .f32 0xC3000000#32 = ((-128 : ℝ) : EReal) := by
  simp [Ideal.ofBits, Ideal.ieee, -EReal.coe_mul]; norm_num

/-- 126, the first digit's largest magnitude. -/
theorem c126 : Ideal.ofBits .f32 0x42FC0000#32 = ((126 : ℝ) : EReal) := by
  simp [Ideal.ofBits, Ideal.ieee, -EReal.coe_mul]; norm_num

/-- One half, the codes' centre. -/
theorem chalf : Ideal.ofBits .f32 0x3F000000#32 = ((1 / 2 : ℝ) : EReal) := by
  simp [Ideal.ofBits, Ideal.ieee, -EReal.coe_mul]; norm_num

/-- 2^26, the limit on the products' magnitudes. -/
theorem cmax : Ideal.ofBits .f32 0x4C800000#32 = ((67108864 : ℝ) : EReal) := by
  simp [Ideal.ofBits, Ideal.ieee, -EReal.coe_mul]; norm_num

/-- The small number that keeps the peak off zero is a positive real. -/
theorem ceps : ∃ e : ℝ, 0 < e ∧ Ideal.ofBits .f32 0x0DA24260#32 = (e : EReal) := by
  refine ⟨_, ?_, by simp [Ideal.ofBits, Ideal.ieee, -EReal.coe_mul]; rfl⟩
  norm_num

/-- The value a maximum starts from. -/
theorem cbot : Ideal.ofBits .f32 0xFF800000#32 = (⊥ : EReal) := by
  simp [Ideal.ofBits, Ideal.ieee]

/-- The value finiteness is tested against. -/
theorem ctop : Ideal.ofBits .f32 0x7F800000#32 = (⊤ : EReal) := by
  simp [Ideal.ofBits, Ideal.ieee]

end Cert.Proof

end
-- ==== Proof.Reals.lean ====
/- Rounding, clamping, sums and maxima of real numbers inside the extended reals. -/
module

public import proofs.«01_k».proof.Proof.Consts

@[expose] public section

noncomputable section

namespace Cert.Proof

open Idealize.ShloMosaic

/-- A sum of reals is a real. -/
theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The larger of two reals is a real. -/
theorem max_coe (a b : ℝ) : max (a : EReal) (b : EReal) = ((max a b : ℝ) : EReal) :=
  (EReal.coe_strictMono.monotone.map_max).symm

/-- The smaller of two reals is a real. -/
theorem min_coe (a b : ℝ) : min (a : EReal) (b : EReal) = ((min a b : ℝ) : EReal) :=
  (EReal.coe_strictMono.monotone.map_min).symm

/-- Rounding an extended real that is a real. -/
theorem round_coe (r : ℝ) : Ideal.liftRound Ideal.roundHalfEven (r : EReal) = (((Ideal.roundHalfEven r : ℤ) : ℝ) : EReal) :=
  rfl

/-- Dividing a real by a nonzero real. -/
theorem div_real (x y : ℝ) (h : y ≠ 0) : Ideal.div (x : EReal) (y : EReal) = ((x / y : ℝ) : EReal) := by
  rw [Ideal.div_coe h, ← EReal.coe_mul, mul_one_div]

/-- Rounding stays under an integer the real is under. -/
theorem round_le (r : ℝ) (n : ℤ) (h : r ≤ n) : Ideal.roundHalfEven r ≤ n := by
  have hf : (⌊r⌋ : ℝ) ≤ r := Int.floor_le r
  have hn : ⌊r⌋ ≤ n := by exact_mod_cast hf.trans h
  rcases hn.eq_or_lt with he | hl
  · have : r - (⌊r⌋ : ℝ) = 0 := by rw [he] at hf ⊢; linarith
    unfold Ideal.roundHalfEven
    simp only [this]
    norm_num
    exact hn
  · unfold Ideal.roundHalfEven
    dsimp only
    split_ifs <;> omega

/-- Rounding stays over an integer the real is over. -/
theorem le_round (r : ℝ) (n : ℤ) (h : (n : ℝ) ≤ r) : n ≤ Ideal.roundHalfEven r := by
  have hn : n ≤ ⌊r⌋ := Int.le_floor.mpr h
  unfold Ideal.roundHalfEven
  dsimp only
  split_ifs <;> omega

/-- What rounding changes is at most a half. -/
theorem round_near (r : ℝ) : |r - (Ideal.roundHalfEven r : ℤ)| ≤ 1 / 2 := by
  have h0 : (⌊r⌋ : ℝ) ≤ r := Int.floor_le r
  have h1 : r < ⌊r⌋ + 1 := Int.lt_floor_add_one r
  unfold Ideal.roundHalfEven
  dsimp only
  split_ifs <;> rw [abs_le] <;> constructor <;> push_cast <;> linarith

/-- The signed byte of an integer-valued real: the integer, clamped. -/
theorem byte_of_int (z : ℤ) :
    (Ideal.fptosi 8 (((z : ℝ)) : EReal)).toInt = max (-128) (min 127 z) := by
  have h : Ideal.fptosi 8 (((z : ℝ)) : EReal) = BitVec.ofInt 8 (max (-128) (min 127 z)) := by
    unfold Ideal.fptosi
    rw [Ideal.toIntClamped_coe]
    congr 1
    have : (if (0:ℝ) ≤ (z : ℝ) then ⌊(z : ℝ)⌋ else ⌈(z : ℝ)⌉) = z := by
      split_ifs <;> simp
    rw [this]
    norm_num
  rw [h, BitVec.toInt_ofInt]
  have h1 : -128 ≤ max (-128) (min 127 z) := le_max_left _ _
  have h2 : max (-128) (min 127 z) ≤ 127 := max_le (by norm_num) (min_le_left _ _)
  generalize max (-128) (min 127 z) = y at h1 h2
  rw [Int.bmod_eq_of_le] <;> norm_num <;> omega

/-- The signed byte of an integer it can hold. -/
theorem byte_exact (z : ℤ) (h : |z| ≤ 127) : (Ideal.fptosi 8 (((z : ℝ)) : EReal)).toInt = z := by
  rw [byte_of_int]
  have := abs_le.mp h
  omega

/-- The maximum of finitely many reals, from minus infinity, is a real that bounds them. -/
theorem fold_max_coe {ι : Type} [Fintype ι] [Nonempty ι] (f : ι → ℝ) :
    ∃ M : ℝ, Finset.fold max (⊥ : EReal) (fun i => ((f i : ℝ) : EReal)) Finset.univ = (M : EReal) ∧ ∀ i, f i ≤ M := by
  classical
  obtain ⟨j, -, hj⟩ := Finset.exists_max_image Finset.univ f Finset.univ_nonempty
  refine ⟨f j, ?_, fun i => hj i (Finset.mem_univ i)⟩
  apply le_antisymm
  · exact (Finset.fold_max_le _).mpr ⟨bot_le, fun i hi => EReal.coe_le_coe_iff.mpr (hj i hi)⟩
  · exact (Finset.le_fold_max _).mpr (Or.inr ⟨j, Finset.mem_univ j, le_refl _⟩)

/-- A maximum with an infinite element is infinite. -/
theorem fold_max_top {ι : Type} [Fintype ι] (b : EReal) (f : ι → EReal) (i : ι) (h : ⊤ ≤ f i) :
    Finset.fold max b f Finset.univ = ⊤ :=
  top_le_iff.mp ((Finset.le_fold_max _).mpr (Or.inr ⟨i, Finset.mem_univ i, h⟩))

end Cert.Proof

end
-- ==== Proof.Equation.lean ====
/- The mathematics: the digits' bounds and the equation between the two ways of adding the products, over the reals. -/
module

public import proofs.«01_k».proof.Proof.Reals

@[expose] public section

noncomputable section

namespace Cert.Proof

open Idealize.ShloMosaic

/-- The code of an adjacency element. -/
def codeInt (x : ℝ) : ℤ := max (-128) (min 127 (Ideal.roundHalfEven (x * 254) - 127))

/-- The first digit of a number at a peak. -/
def firstInt (P x : ℝ) : ℤ := Ideal.roundHalfEven (x / (P / 126))

/-- The second digit. -/
def secondInt (P x : ℝ) : ℤ := Ideal.roundHalfEven ((x - (firstInt P x : ℝ) * (P / 126)) / (P / 126 / 254))

/-- The first digit is at most 126. -/
theorem firstInt_le (P x : ℝ) (hP : 0 < P) (hx : |x| ≤ P) : |firstInt P x| ≤ 126 := by
  have h := abs_le.mp hx
  have hd : 0 < P / 126 := by positivity
  refine abs_le.mpr ⟨le_round _ _ ?_, round_le _ _ ?_⟩
  · rw [le_div_iff₀ hd]; push_cast; linarith
  · rw [div_le_iff₀ hd]; push_cast; linarith

/-- The second digit is at most 127. -/
theorem secondInt_le (P x : ℝ) (hP : 0 < P) : |secondInt P x| ≤ 127 := by
  have hd : 0 < P / 126 := by positivity
  have h := abs_le.mp (round_near (x / (P / 126)))
  have he : (x - (firstInt P x : ℝ) * (P / 126)) / (P / 126 / 254) = (x / (P / 126) - (firstInt P x : ℝ)) * 254 := by
    field_simp
  unfold secondInt
  rw [he]
  refine abs_le.mpr ⟨le_round _ _ ?_, round_le _ _ ?_⟩ <;> unfold firstInt <;> push_cast <;> linarith [h.1, h.2]

/-- Adding the digits' integer products and scaling once is adding the products of the values they stand for. -/
theorem product_eq {n : ℕ} (P : ℝ) (q h l : Fin n → ℤ) :
    (((∑ k, q k * h k : ℤ) : ℝ) + ((∑ k, q k * l k : ℤ) : ℝ) * 254⁻¹) * (P * 126⁻¹ * 254⁻¹) =
      ∑ k, ((q k : ℝ) / 254) * ((h k : ℝ) * (P / 126) + (l k : ℝ) * (P / 126 / 254)) := by
  push_cast
  rw [Finset.sum_mul, ← Finset.sum_add_distrib, Finset.sum_mul]
  refine Finset.sum_congr rfl fun k _ => ?_
  ring

/-- The first layer's two groupings of a product of three matrices agree. -/
theorem triple_eq {n d : ℕ} (a : Fin n → ℝ) (x : Fin n → Fin d → ℝ) (w : Fin d → ℝ) :
    ∑ e, (∑ k, a k * x k e) * w e = ∑ k, a k * ∑ e, x k e * w e := by
  simp only [Finset.sum_mul, Finset.mul_sum]
  rw [Finset.sum_comm]
  refine Finset.sum_congr rfl fun k _ => Finset.sum_congr rfl fun e _ => ?_
  ring

/-- A bound on a sum of products of magnitudes, as a natural number. -/
theorem nat_bound {n : ℕ} (q h : Fin n → ℤ) (b : ℕ) (hb : ∑ k, |(q k : ℝ)| * |(h k : ℝ)| ≤ (b : ℝ)) :
    ∑ k, (q k * h k).natAbs ≤ b := by
  have : ((∑ k, (q k * h k).natAbs : ℕ) : ℝ) = ∑ k, |(q k : ℝ)| * |(h k : ℝ)| := by
    push_cast
    refine Finset.sum_congr rfl fun k _ => ?_
    rw [Nat.cast_natAbs, Int.cast_abs]
    push_cast
    exact abs_mul _ _
  exact_mod_cast this ▸ hb

end Cert.Proof

end
-- ==== Proof.Support.lean ====
/- The kernel's support and the reference's are one array. Either it is real, and its peak a positive real that bounds it,
   or its peak is infinite. -/
module

public import proofs.«01_k».proof.Proof.Pass1
public import proofs.«01_k».proof.Proof.Digits
public import proofs.«01_k».proof.Proof.RefPoints
public import proofs.«01_k».proof.Proof.Equation

@[expose] public section

noncomputable section

namespace Cert.Proof

open Cert.KernelIdeal Cert.KernelIdeal.Gen
open Idealize.ShloMosaic Idealize.ShloMosaic.TcCoe

set_option maxRecDepth 16384

/-- The first layer's output on real arguments. -/
def hiddenReal (X : Fin 10000 → Fin 128 → ℝ) (A : Fin 10000 → Fin 10000 → ℝ) (W1 : Fin 128 → Fin 128 → ℝ)
    (i : Fin 10000) (l : Fin 128) : ℝ :=
  max (∑ k : Fin 10000, A i k * ∑ d : Fin 128, X k d * W1 d l) 0

/-- The element of an array at two coordinates, as an extended real. -/
def elt {n m : ℕ} (v : Vec Ideal ⟨2, ![n, m]⟩ .f32) (i : Fin n) (j : Fin m) : EReal := v (ix2 i j)

section
variable (x : Vec Ideal S10000x128 .f32) (a : Vec Ideal S10000x10000 .f32) (w1 w2 : Vec Ideal S128x128 .f32)
variable (X : Fin 10000 → Fin 128 → ℝ) (A : Fin 10000 → Fin 10000 → ℝ) (W1 : Fin 128 → Fin 128 → ℝ)
variable (hx : ∀ i j, elt x i j = (X i j : EReal)) (ha : ∀ i j, elt a i j = (A i j : EReal))
variable (h1 : ∀ i j, elt w1 i j = (W1 i j : EReal))

include hx ha h1

/-- The reference's support is the real first layer times the second weights. -/
theorem ref_support (i : Fin 10000) (j : Fin 128) :
    elt (Ref.support x a w1 w2) i j = ∑ l : Fin 128, (hiddenReal X A W1 i l : EReal) * elt w2 l j := by
  refine (Ref.support_point x a w1 w2 i j).trans ?_
  show (∑ l : Fin 128, max (∑ k : Fin 10000, elt a i k * ∑ d : Fin 128, elt x k d * elt w1 d l) 0 * elt w2 l j) = _
  simp only [hx, ha, h1, ← EReal.coe_mul, sum_coe, ← EReal.coe_zero, max_coe]
  rfl

/-- So is the kernel's. -/
theorem kernel_support (i : Fin 10000) (j : Fin 128) :
    elt (supportArr x a w1 w2) i j = ∑ l : Fin 128, (hiddenReal X A W1 i l : EReal) * elt w2 l j := by
  show (∑ l : Fin 128, max (∑ d : Fin 128, (∑ k : Fin 10000, elt a i k * elt x k d) * elt w1 d l) 0 * elt w2 l j) = _
  simp only [hx, ha, h1, ← EReal.coe_mul, sum_coe, ← EReal.coe_zero, max_coe, triple_eq]
  rfl

/-- So the two are one array. -/
theorem support_eq : supportArr x a w1 w2 = Ref.support x a w1 w2 := by
  funext i
  obtain ⟨r, c, rfl⟩ : ∃ (r : Fin 10000) (c : Fin 128), i = ix2 r c := ⟨i 0, i 1, eq_ix2 i⟩
  exact (kernel_support x a w1 w2 X A W1 hx ha h1 r c).trans (ref_support x a w1 w2 X A W1 hx ha h1 r c).symm

end

/-- The peak of a real array is a positive real that bounds it. -/
theorem peak_real (s : Vec Ideal S10000x128 .f32) (S : Fin 10000 → Fin 128 → ℝ) (hs : ∀ i j, elt s i j = (S i j : EReal)) :
    ∃ P : ℝ, 0 < P ∧ peak s = (P : EReal) ∧ ∀ i j, |S i j| ≤ P := by
  obtain ⟨e, he, hc⟩ := ceps
  obtain ⟨M, hM, hb⟩ := fold_max_coe fun x : Fin 10000 × Fin 128 => |S x.1 x.2|
  have hM0 : 0 ≤ M := (abs_nonneg _).trans (hb (0, 0))
  refine ⟨M + e, by linarith, ?_, fun i j => (hb (i, j)).trans (by linarith)⟩
  show (Finset.fold max (Ideal.ofBits .f32 0xFF800000#32)
    (fun x : Fin 10000 × Fin 128 => max (elt s x.1 x.2) (-(elt s x.1 x.2))) Finset.univ + Ideal.ofBits .f32 0x0DA24260#32 : EReal) = _
  rw [hc, cbot]
  simp only [hs, ← EReal.coe_neg, max_coe]
  rw [EReal.coe_add, ← hM]
  rfl

/-- An array whose peak is not infinite is real. -/
theorem real_or_top (s : Vec Ideal S10000x128 .f32) :
    peak s = ⊤ ∨ ∀ i j, elt s i j = ((elt s i j).toReal : EReal) := by
  by_cases h : ∀ i j, max (elt s i j) (-(elt s i j)) < ⊤
  · refine Or.inr fun i j => (EReal.coe_toReal (fun e => ?_) (fun e => ?_)).symm
    all_goals exact absurd (h i j) (by simp [e])
  · left
    push Not at h
    obtain ⟨i, j, hij⟩ := h
    obtain ⟨e, -, hc⟩ := ceps
    have hf : Finset.fold max (Ideal.ofBits .f32 0xFF800000#32)
        (fun x : Fin 10000 × Fin 128 => max (elt s x.1 x.2) (-(elt s x.1 x.2))) Finset.univ = (⊤ : EReal) :=
      fold_max_top _ _ (i, j) hij
    show (Finset.fold max (Ideal.ofBits .f32 0xFF800000#32)
      (fun x : Fin 10000 × Fin 128 => max (elt s x.1 x.2) (-(elt s x.1 x.2))) Finset.univ + Ideal.ofBits .f32 0x0DA24260#32 : EReal) = _
    rw [hf, hc, EReal.top_add_coe]

end Cert.Proof

end
-- ==== Proof.Words.lean ====
/- The codes and the two digits, in the kernel's signed bytes and in the reference's floats: one set of integers. -/
module

public import proofs.«01_k».proof.Proof.Support

@[expose] public section

noncomputable section

namespace Cert.Proof

open Cert.KernelIdeal Cert.KernelIdeal.Gen
open Idealize.ShloMosaic Idealize.ShloMosaic.TcCoe

set_option maxRecDepth 16384

/-- The element of an array of signed bytes at two coordinates, as an integer. -/
def byteAt {n m : ℕ} (v : Vec Ideal ⟨2, ![n, m]⟩ .i8) (i : Fin n) (j : Fin m) : ℤ := BitVec.toInt (n := 8) (v (ix2 i j))

/-- The number of an adjacency code before clipping. -/
theorem code_number (r : ℝ) :
    (Ideal.liftRound Ideal.roundHalfEven ((r : EReal) * Ideal.ofBits .f32 0x437E0000#32) - Ideal.ofBits .f32 0x42FE0000#32 : EReal) =
      (((Ideal.roundHalfEven (r * 254) - 127 : ℤ) : ℝ) : EReal) := by
  rw [c254, c127, ← EReal.coe_mul, round_coe, ← EReal.coe_sub]
  push_cast
  rfl

section
variable (a : Vec Ideal S10000x10000 .f32) (A : Fin 10000 → Fin 10000 → ℝ) (ha : ∀ i j, elt a i j = (A i j : EReal))
include ha

/-- The kernel's code byte. -/
theorem kernel_code (i k : Fin 10000) : byteAt (codeArr a) i k = codeInt (A i k) := by
  show BitVec.toInt (Ideal.fptosi 8 (Ideal.liftRound Ideal.roundHalfEven (elt a i k * Ideal.ofBits .f32 0x437E0000#32)
    - Ideal.ofBits .f32 0x42FE0000#32)) = _
  rw [ha, code_number, byte_of_int]
  rfl

/-- The reference's code. -/
theorem ref_code (i k : Fin 10000) : elt (Ref.code a) i k = ((codeInt (A i k) : ℝ) : EReal) := by
  refine (Ref.code_point a i k).trans ?_
  show (min (Ideal.ofBits .f32 0x42FE0000#32) (max (Ideal.ofBits .f32 0xC3000000#32)
    (Ideal.liftRound Ideal.roundHalfEven (elt a i k * Ideal.ofBits .f32 0x437E0000#32) - Ideal.ofBits .f32 0x42FE0000#32)) : EReal) = _
  rw [ha, code_number, c127, cm128, max_coe, min_coe]
  unfold codeInt
  congr 1
  push_cast
  rw [max_min_distrib_left]
  rw [max_eq_right (by norm_num : (-128 : ℝ) ≤ 127)]

end

section
variable (s : Vec Ideal S10000x128 .f32) (S : Fin 10000 → Fin 128 → ℝ) (P : ℝ)
variable (hs : ∀ i j, elt s i j = (S i j : EReal)) (hP : 0 < P) (hp : peak s = (P : EReal))

include hp in
/-- The kernel's step. -/
theorem step_real : step s = ((P * 126⁻¹ : ℝ) : EReal) := by
  unfold step
  rw [hp, ← EReal.coe_mul]

include hP hp in
/-- The kernel's rate, the inverse of its step. -/
theorem rate_real : rate s = ((126 / P : ℝ) : EReal) := by
  unfold rate
  rw [hp, c126, div_real _ _ hP.ne']

include hs hP hp in
/-- The kernel's first digit before it is a byte. -/
theorem first_number (i : Fin 10000) (j : Fin 128) : (firstDigit s (ix2 i j) : EReal) = ((firstInt P (S i j) : ℝ) : EReal) := by
  show Ideal.liftRound Ideal.roundHalfEven (elt s i j * rate s) = _
  rw [hs, rate_real s P hP hp, ← EReal.coe_mul, round_coe]
  unfold firstInt
  rw [show S i j * (126 / P) = S i j / (P / 126) by field_simp]

include hs hP hp in
/-- The kernel's second digit before it is a byte. -/
theorem second_number (i : Fin 10000) (j : Fin 128) : (secondDigit s (ix2 i j) : EReal) = ((secondInt P (S i j) : ℝ) : EReal) := by
  show Ideal.liftRound Ideal.roundHalfEven ((elt s i j - firstDigit s (ix2 i j) * step s) * (Ideal.ofBits .f32 0x437E0000#32 * rate s)) = _
  rw [hs, first_number s S P hs hP hp, step_real s P hp, rate_real s P hP hp, c254, ← EReal.coe_mul, ← EReal.coe_mul, ← EReal.coe_sub,
    ← EReal.coe_mul, round_coe]
  unfold secondInt
  rw [show (S i j - (firstInt P (S i j) : ℝ) * (P * 126⁻¹)) * (254 * (126 / P)) = (S i j - (firstInt P (S i j) : ℝ) * (P / 126)) / (P / 126 / 254) by
    field_simp]

include hs hP hp in
/-- The kernel's first digit byte. -/
theorem kernel_first (hb : ∀ i j, |S i j| ≤ P) (i : Fin 10000) (j : Fin 128) :
    byteAt (k1_pay6 (F := Ideal) s) i j = firstInt P (S i j) := by
  unfold byteAt
  rw [first_digit_word, first_number s S P hs hP hp]
  exact byte_exact _ ((firstInt_le P _ hP (hb i j)).trans (by norm_num))

include hs hP hp in
/-- The kernel's second digit byte. -/
theorem kernel_second (i : Fin 10000) (j : Fin 128) : byteAt (k1_pay7 (F := Ideal) s) i j = secondInt P (S i j) := by
  unfold byteAt
  rw [second_digit_word, second_number s S P hs hP hp]
  exact byte_exact _ (secondInt_le P _ hP)

include hp in
/-- The reference's step. -/
theorem ref_step : (Ref.step (Ref.peak s) ix0 : EReal) = ((P / 126 : ℝ) : EReal) := by
  rw [Ref.step_point, Ref.peak_point, c126, ← div_real P 126 (by norm_num), ← hp]
  rfl

end

section
variable (s : Vec Ideal S10000x128 .f32) (d : Cert.ReferenceIdeal.S_.Idx → EReal) (S : Fin 10000 → Fin 128 → ℝ) (P : ℝ)
variable (hs : ∀ i j, elt s i j = (S i j : EReal)) (hP : 0 < P) (hd : d ix0 = ((P / 126 : ℝ) : EReal))
include hs hP hd

/-- The reference's first digit. -/
theorem ref_first (i : Fin 10000) (j : Fin 128) : elt (Ref.first s d) i j = ((firstInt P (S i j) : ℝ) : EReal) := by
  refine (Ref.first_point s d i j).trans ?_
  show Ideal.liftRound Ideal.roundHalfEven (Ideal.div (elt s i j) (d ix0)) = _
  rw [hs, hd, div_real _ _ (by positivity), round_coe]
  rfl

/-- The reference's second digit. -/
theorem ref_second (i : Fin 10000) (j : Fin 128) :
    elt (Ref.second s (Ref.first s d) d) i j = ((secondInt P (S i j) : ℝ) : EReal) := by
  refine (Ref.second_point s (Ref.first s d) d i j).trans ?_
  show Ideal.liftRound Ideal.roundHalfEven
    (Ideal.div (elt s i j - elt (Ref.first s d) i j * d ix0) (Ideal.div (d ix0) (Ideal.ofBits .f32 0x437E0000#32))) = _
  rw [ref_first s d S P hs hP hd, hs, hd, c254, div_real _ _ (by norm_num), ← EReal.coe_mul, ← EReal.coe_sub,
    div_real _ _ (by positivity), round_coe]
  rfl

end

end Cert.Proof

end
-- ==== Proof.Infinite.lean ====
/- A support with an infinite peak: both programs' digits are zero, so both products are. -/
module

public import proofs.«01_k».proof.Proof.Words

@[expose] public section

noncomputable section

namespace Cert.Proof

open Cert.KernelIdeal Cert.KernelIdeal.Gen
open Idealize.ShloMosaic Idealize.ShloMosaic.TcCoe

set_option maxRecDepth 16384

/-- Dividing by infinity gives zero. -/
theorem div_top (x : EReal) : Ideal.div x ⊤ = 0 := by
  unfold Ideal.div
  rw [if_neg EReal.top_ne_zero, EReal.inv_top, mul_zero]

/-- Infinity over a positive real is infinity. -/
theorem top_div (y : ℝ) (h : 0 < y) : Ideal.div ⊤ (y : EReal) = ⊤ := by
  rw [Ideal.div_coe h.ne', EReal.top_mul_coe_of_pos (by positivity)]

/-- Zero rounds to the integer zero. -/
theorem round_zero : Ideal.liftRound Ideal.roundHalfEven (0 : EReal) = (((0 : ℤ) : ℝ) : EReal) := by
  rw [← EReal.coe_zero, round_coe]
  norm_num [Ideal.roundHalfEven]

section
variable (s : Vec Ideal S10000x128 .f32) (hp : peak s = ⊤)
include hp

/-- The kernel's rate is zero. -/
theorem rate_top : rate s = 0 := by
  unfold rate
  rw [hp, div_top]

/-- The kernel's first digit byte is zero. -/
theorem kernel_first_top (i : Fin 10000) (j : Fin 128) : byteAt (k1_pay6 (F := Ideal) s) i j = 0 := by
  unfold byteAt
  rw [first_digit_word]
  unfold firstDigit
  rw [rate_top s hp, mul_zero, round_zero]
  exact byte_exact 0 (by norm_num)

/-- The kernel's second digit byte is zero. -/
theorem kernel_second_top (i : Fin 10000) (j : Fin 128) : byteAt (k1_pay7 (F := Ideal) s) i j = 0 := by
  unfold byteAt
  rw [second_digit_word]
  unfold secondDigit
  rw [rate_top s hp, mul_zero, mul_zero, round_zero]
  exact byte_exact 0 (by norm_num)

/-- The reference's step is infinite. -/
theorem ref_step_top : (Ref.step (Ref.peak s) ix0 : EReal) = ⊤ := by
  rw [Ref.step_point, c126, ← top_div 126 (by norm_num), ← hp, Ref.peak_point]
  rfl

end

section
variable (s : Vec Ideal S10000x128 .f32) (d : Cert.ReferenceIdeal.S_.Idx → EReal) (hd : d ix0 = ⊤)
include hd

/-- The reference's first digit is zero. -/
theorem ref_first_top (i : Fin 10000) (j : Fin 128) : elt (Ref.first s d) i j = 0 := by
  refine (Ref.first_point s d i j).trans ?_
  show Ideal.liftRound Ideal.roundHalfEven (Ideal.div (elt s i j) (d ix0)) = _
  rw [hd, div_top, round_zero]
  norm_num

/-- The reference's second digit is zero. -/
theorem ref_second_top (h : Vec Ideal S10000x128 .f32) (i : Fin 10000) (j : Fin 128) : elt (Ref.second s h d) i j = 0 := by
  refine (Ref.second_point s h d i j).trans ?_
  rw [hd, c254, top_div 254 (by norm_num), div_top, round_zero]
  norm_num

end

end Cert.Proof

end
-- ==== Proof.Pass2.lean ====
/- The third region: two integer products per block, and what its array holds afterwards. -/
module

public import proofs.«01_k».proof.Proof.Gen.KernelIdeal.Frame
public import Idealize.ShloMosaic.Lib.Pipeline.ValueKit
public import Idealize.ShloMosaic.Lib.Pointwise
public import Idealize.ShloMosaic.Lib.IntMxu

@[expose] public section

noncomputable section

namespace Cert.Proof

open Cert.KernelIdeal Cert.KernelIdeal.Gen
open Idealize.ShloMosaic Idealize.ShloMosaic.TcCoe
open Idealize.ShloMosaic.Pipeline (Dat Cfg Window)

set_option maxRecDepth 16384

/-- The product of a row of codes with a column of digits, over the integers. -/
def dotInt (q : Fin 10000 → BitVec 8) (h : Fin 10000 → BitVec 8) : ℤ := ∑ k, (q k).toInt * (h k).toInt

/-- The sum of the same products' magnitudes. -/
def dotAbs (q : Fin 10000 → BitVec 8) (h : Fin 10000 → BitVec 8) : ℕ := ∑ k, ((q k).toInt * (h k).toInt).natAbs

/-- The block product's dimension numbers: rows by columns. -/
abbrev dims := dot_S400x10000_S10000x128_S400x128_1_0_0_1_n_n

/-- The integer product of a block, at an element, where the magnitudes stay within what the unit adds exactly. -/
theorem int_product (q : Vec Ideal S400x10000 .i8) (h : Vec Ideal S10000x128 .i8) (r : Fin 400) (j : Fin 128)
    (hb : dotAbs (fun k => q (ix2 r k)) (fun k => h (ix2 k j)) ≤ 2 ^ 26) :
    (matmulI8 IntMxuNumerics.v5e dims q h (constantI S400x128 32 0#32) (ix2 r j)).toInt
      = dotInt (fun k => q (ix2 r k)) (fun k => h (ix2 k j)) := by
  have hl (k : Fin 10000) : dims.lhsIdx (ix2 r j) (dims.contrIdx₁ (a := 1) rfl (K := 10000) rfl k) = ix2 r k := by
    refine (eq_ix2 _).trans ?_
    congr 1
  have hr (k : Fin 10000) : dims.rhsIdx (ix2 r j) (dims.contrIdx₁ (a := 1) rfl (K := 10000) rfl k) = ix2 k j := by
    refine (eq_ix2 _).trans ?_
    congr 1
  have ha : absDotI8 dims q h (ix2 r j) = dotAbs (fun k => q (ix2 r k)) (fun k => h (ix2 k j)) := by
    unfold absDotI8 dotAbs
    rw [dims.sum_contr₁ (a := 1) rfl (K := 10000) rfl]
    exact Finset.sum_congr rfl fun k _ => by rw [hl, hr]
  have hd : dotI8 dims q h (ix2 r j) = dotInt (fun k => q (ix2 r k)) (fun k => h (ix2 k j)) := by
    unfold dotI8 dotInt
    rw [dims.sum_contr₁ (a := 1) rfl (K := 10000) rfl]
    exact Finset.sum_congr rfl fun k _ => by rw [hl, hr]
  rw [matmulI8_toInt _ dims q h _ _ rfl (by rw [ha]; exact hb), hd]

/-- One block of the result, at an element: the two digit products, the second at 1/254 of the first, scaled, and
    half the support's column sum. -/
theorem result_block (q : Vec Ideal S400x10000 .i8) (hi lo : Vec Ideal S10000x128 .i8) (aux : Vec Ideal S2x128 .f32)
    (r : Fin 400) (j : Fin 128)
    (h1 : dotAbs (fun k => q (ix2 r k)) (fun k => hi (ix2 k j)) ≤ 2 ^ 26)
    (h2 : dotAbs (fun k => q (ix2 r k)) (fun k => lo (ix2 k j)) ≤ 2 ^ 26) :
    k2_pay1 (F := Ideal) q hi lo aux (ix2 r j)
      = (((dotInt (fun k => q (ix2 r k)) (fun k => hi (ix2 k j)) : ℝ) : EReal)
          + ((dotInt (fun k => q (ix2 r k)) (fun k => lo (ix2 k j)) : ℝ) : EReal) * ((254⁻¹ : ℝ) : EReal))
        * (aux (ix2 1 j) * ((254⁻¹ : ℝ) : EReal)) + aux (ix2 0 j) := by
  have hn : Named.named (F := Ideal) (φ := .f32) κ "r254" 0x3B810204#32 = ((254⁻¹ : ℝ) : EReal) :=
    IdealRules.named_const.ideal_named_scalar _ _ _ _ rfl
  have hs (w : BitVec 32) : (FloatOps.sitofp (F := Ideal) FTy.f32 w) = ((w.toInt : ℝ) : EReal) := rfl
  pointwise [k2_pay1]
  rw [hn, hs, hs, int_product q hi r j h1, int_product q lo r j h2]

variable (m : (ℓ : Loc nD τ sig) → Buf (Elt Ideal) ℓ) (ρ : Dev nD → PrngReg)

/-- Where each window of the third region stands at a point. -/
theorem idx2 : ∀ t : Fin cfg2.N, win2_0.index t = ![t.val, 0] ∧ win2_1.index t = ![0, 0] ∧ win2_2.index t = ![0, 0]
    ∧ win2_3.index t = ![0, 0] ∧ win2_4.index t = ![t.val, 0] := by
  decide +kernel

/-- The result of the two digit products, at every element. -/
def resultArr (q : Vec Ideal S10000x10000 .i8) (hi lo : Vec Ideal S10000x128 .i8) (aux : Vec Ideal S2x128 .f32) :
    Vec Ideal S10000x128 .f32 := fun i =>
  (((dotInt (fun k => q (ix2 (i 0) k)) (fun k => hi (ix2 k (i 1))) : ℝ) : EReal)
      + ((dotInt (fun k => q (ix2 (i 0) k)) (fun k => lo (ix2 k (i 1))) : ℝ) : EReal) * ((254⁻¹ : ℝ) : EReal))
    * (aux (ix2 1 (i 1)) * ((254⁻¹ : ℝ) : EReal)) + aux (ix2 0 (i 1))

/-- After the third region its array holds the result, where the magnitudes stay within the exact range. -/
theorem result_at (c : Dev nD)
    (h1 : ∀ (i : Fin 10000) (j : Fin 128), dotAbs (fun k => W2 m ρ c (Proc.devRef .tc main_v0_1) (ix2 i k))
        (fun k => W2 m ρ c (Proc.devRef .tc main_v1_0) (ix2 k j)) ≤ 2 ^ 26)
    (h2 : ∀ (i : Fin 10000) (j : Fin 128), dotAbs (fun k => W2 m ρ c (Proc.devRef .tc main_v0_1) (ix2 i k))
        (fun k => W2 m ρ c (Proc.devRef .tc main_v1_1) (ix2 k j)) ≤ 2 ^ 26) :
    W3 m ρ c (Proc.devRef .tc main_v2) = resultArr (W2 m ρ c (Proc.devRef .tc main_v0_1))
      (W2 m ρ c (Proc.devRef .tc main_v1_0)) (W2 m ρ c (Proc.devRef .tc main_v1_1)) (W2 m ρ c (Proc.devRef .tc main_v1_2)) := by
  refine (W3_arr m ρ c (4 : Fin 5)).trans ?_
  refine (dat2 (V2 m ρ) c).arrAt_eq_of_covers (4 : Fin 5) _ (by decide +kernel) fun t hf y => ?_
  blk_simp
  rw [after2_4]
  frame_out
  obtain ⟨r, j, rfl⟩ : ∃ (r : Fin 400) (j : Fin 128), y = ix2 r j := ⟨y 0, y 1, eq_ix2 y⟩
  have ht : t.val < 25 := t.isLt
  have hi : ((View.whole main_v2).slice (win2_4.rect t)).emb (ix2 r j) = ix2 (⟨t.val * 400 + r.val, by omega⟩ : Fin 10000) j := by
    blk_ext [idx2 t]
  have e0 (k : Fin 10000) : iblk2 (V2 m ρ) c 0 t (ix2 r k)
      = W2 m ρ c (Proc.devRef .tc main_v0_1) (ix2 (⟨t.val * 400 + r.val, by omega⟩ : Fin 10000) k) := by
    blk_ext [iblk2, V2, idx2 t]
  have e1 (k : Fin 10000) (l : Fin 128) : iblk2 (V2 m ρ) c 1 t (ix2 k l) = W2 m ρ c (Proc.devRef .tc main_v1_0) (ix2 k l) := by
    blk_ext [iblk2, V2, idx2 t]
  have e2 (k : Fin 10000) (l : Fin 128) : iblk2 (V2 m ρ) c 2 t (ix2 k l) = W2 m ρ c (Proc.devRef .tc main_v1_1) (ix2 k l) := by
    blk_ext [iblk2, V2, idx2 t]
  have e3 (k : Fin 2) (l : Fin 128) : iblk2 (V2 m ρ) c 3 t (ix2 k l) = W2 m ρ c (Proc.devRef .tc main_v1_2) (ix2 k l) := by
    blk_ext [iblk2, V2, idx2 t]
  rw [result_block, hi]
  · unfold resultArr
    simp only [e0, e1, e2, e3]
    rfl
  · simp only [e0, e1]; exact h1 _ _
  · simp only [e0, e2]; exact h2 _ _

end Cert.Proof

end
-- ==== Proof.PreStages.lean ====
/- The precondition as a conjunction over the reference's own stages. -/
module

public import proofs.«01_k».proof.Proof.Gen.Pre_exact_products
public import proofs.«01_k».proof.Proof.RefStages

@[expose] public section

noncomputable section

namespace Cert.Proof.Pre

open Cert.Pre_exact_products
open Idealize.ShloMosaic Idealize.ShloMosaic.TcCoe

set_option maxRecDepth 16384

/-- Every element of a node array is finite. -/
def finiteNodes (x : FVec Ideal S10000x128 .f32) : IVec S_ 1 :=
  Host.reduce IntOp.andi (cmpf .olt (Host.absf x) (broadcastInDim S10000x128 ![] Facts.bcast_S_S10000x128 (constant S_ .f32 0x7F800000#32)))
    (constantI S_ 1 1#1) Facts.reducesTo_S10000x128_S_d0_1 Facts.h_S_

/-- Every element of the adjacency is finite. -/
def finiteAdj (x : FVec Ideal S10000x10000 .f32) : IVec S_ 1 :=
  Host.reduce IntOp.andi (cmpf .olt (Host.absf x) (broadcastInDim S10000x10000 ![] Facts.bcast_S_S10000x10000 (constant S_ .f32 0x7F800000#32)))
    (constantI S_ 1 1#1) Facts.reducesTo_S10000x10000_S_d0_1 Facts.h_S_

/-- Every element of a weight matrix is finite. -/
def finiteWeights (x : FVec Ideal S128x128 .f32) : IVec S_ 1 :=
  Host.reduce IntOp.andi (cmpf .olt (Host.absf x) (broadcastInDim S128x128 ![] Facts.bcast_S_S128x128 (constant S_ .f32 0x7F800000#32)))
    (constantI S_ 1 1#1) Facts.reducesTo_S128x128_S_d0_1 Facts.h_S_

/-- Every element of the magnitudes' product is at most 2^26. -/
def bounded (q : FVec Ideal S10000x10000 .f32) (h : FVec Ideal S10000x128 .f32) : IVec S_ 1 :=
  Host.reduce IntOp.andi (cmpf .ole (Host.dotGeneral dot_S10000x10000_S10000x128_S10000x128_1_0_0_1_n_n none (Host.absf q) (Host.absf h))
      (broadcastInDim S10000x128 ![] Facts.bcast_S_S10000x128 (constant S_ .f32 0x4C800000#32)))
    (constantI S_ 1 1#1) Facts.reducesTo_S10000x128_S_d0_1 Facts.h_S_

/-- The precondition is the conjunction of the three finiteness facts and the two bounds. -/
theorem pre_stages (x : FVec Ideal S10000x128 .f32) (a : FVec Ideal S10000x10000 .f32) (w1 w2 : FVec Ideal S128x128 .f32) :
    Cert.Pre_exact_products.fn (F := Ideal) x a w1 w2 =
      (let s := Ref.support x a w1 w2
      let d := Ref.step (Ref.peak s)
      let h := Ref.first s d
      andi (andi (andi (andi (finiteNodes x) (finiteAdj a)) (finiteWeights w1))
        (bounded (Ref.code a) h)) (bounded (Ref.code a) (Ref.second s h d))) := by
  rfl

end Cert.Proof.Pre

end
-- ==== Proof.PrePoints.lean ====
/- What the precondition says of the arguments: they are finite, and the two products stay under 2^26. -/
module

public import proofs.«01_k».proof.Proof.PreStages
public import proofs.«01_k».proof.Proof.Consts
public import Idealize.ShloMosaic.Lib.ReduceAll

@[expose] public section

noncomputable section

namespace Cert.Proof.Pre

open Cert.Pre_exact_products
open Idealize.ShloMosaic Idealize.ShloMosaic.TcCoe

set_option maxRecDepth 16384

/-- A number whose magnitude is under infinity is a real. -/
theorem real_of_lt (x : EReal) (h : Ideal.cmp .olt (max x (-x)) (Ideal.ofBits .f32 0x7F800000#32) = 1#1) : x = ((x.toReal : ℝ) : EReal) := by
  rw [ctop] at h
  have h' : max x (-x) < ⊤ := by
    by_contra hn
    simp [Ideal.cmp, hn] at h
  have h1 : x ≠ ⊤ := fun e => by simp [e] at h'
  have h2 : x ≠ ⊥ := fun e => by simp [e] at h'
  exact (EReal.coe_toReal h1 h2).symm

/-- The nodes' features are reals. -/
theorem nodes_real (x : FVec Ideal S10000x128 .f32) (h : finiteNodes x ix0 = 1#1) (i : Fin 10000) (j : Fin 128) :
    (x (ix2 i j) : EReal) = (((x (ix2 i j) : EReal).toReal : ℝ) : EReal) := by
  unfold finiteNodes at h
  have e := Host.reduce_andi_all _ _ _ _ _ h (ix2 i j)
  apply real_of_lt
  rw [← e]
  pointwise
  simp only [Ideal.absf_def]

/-- The adjacency's elements are reals. -/
theorem adj_real (x : FVec Ideal S10000x10000 .f32) (h : finiteAdj x ix0 = 1#1) (i j : Fin 10000) :
    (x (ix2 i j) : EReal) = (((x (ix2 i j) : EReal).toReal : ℝ) : EReal) := by
  unfold finiteAdj at h
  have e := Host.reduce_andi_all _ _ _ _ _ h (ix2 i j)
  apply real_of_lt
  rw [← e]
  pointwise
  simp only [Ideal.absf_def]

/-- The weights are reals. -/
theorem weights_real (x : FVec Ideal S128x128 .f32) (h : finiteWeights x ix0 = 1#1) (i j : Fin 128) :
    (x (ix2 i j) : EReal) = (((x (ix2 i j) : EReal).toReal : ℝ) : EReal) := by
  unfold finiteWeights at h
  have e := Host.reduce_andi_all _ _ _ _ _ h (ix2 i j)
  apply real_of_lt
  rw [← e]
  pointwise
  simp only [Ideal.absf_def]

/-- The products' magnitudes stay under 2^26. -/
theorem bounded_read (q : FVec Ideal S10000x10000 .f32) (g : FVec Ideal S10000x128 .f32) (h : bounded q g ix0 = 1#1)
    (i : Fin 10000) (j : Fin 128) :
    (∑ k : Fin 10000, max (q (ix2 i k)) (-(q (ix2 i k))) * max (g (ix2 k j)) (-(g (ix2 k j))) : EReal) ≤ Ideal.ofBits .f32 0x4C800000#32 := by
  unfold bounded at h
  have e := Host.reduce_andi_all _ _ _ _ _ h (ix2 i j)
  by_contra hn
  have e' : Ideal.cmp .ole (∑ k : Fin 10000, max (q (ix2 i k)) (-(q (ix2 i k))) * max (g (ix2 k j)) (-(g (ix2 k j))) : EReal)
      (Ideal.ofBits .f32 0x4C800000#32) = 1#1 := by
    rw [← e]
    pointwise
    simp only [Ideal.absf_def]
  simp [Ideal.cmp, hn] at e'

end Cert.Proof.Pre

end
-- ==== Proof.Result.lean ====
/- The two results, element by element, and their equation. -/
module

public import proofs.«01_k».proof.Proof.Infinite
public import proofs.«01_k».proof.Proof.Pass2
public import proofs.«01_k».proof.Proof.PrePoints

@[expose] public section

noncomputable section

namespace Cert.Proof

open Cert.KernelIdeal Cert.KernelIdeal.Gen
open Idealize.ShloMosaic Idealize.ShloMosaic.TcCoe

set_option maxRecDepth 16384

/-- An integer product of bytes, from the integers the bytes are. -/
theorem dotInt_eq (q : Vec Ideal S10000x10000 .i8) (h : Vec Ideal S10000x128 .i8) (i : Fin 10000) (j : Fin 128) (Q H : Fin 10000 → ℤ)
    (hq : ∀ k, byteAt q i k = Q k) (hh : ∀ k, byteAt h k j = H k) :
    dotInt (fun k => q (ix2 i k)) (fun k => h (ix2 k j)) = ∑ k, Q k * H k :=
  Finset.sum_congr rfl fun k _ => congrArg₂ (· * ·) (hq k) (hh k)

/-- The same of the magnitudes. -/
theorem dotAbs_eq (q : Vec Ideal S10000x10000 .i8) (h : Vec Ideal S10000x128 .i8) (i : Fin 10000) (j : Fin 128) (Q H : Fin 10000 → ℤ)
    (hq : ∀ k, byteAt q i k = Q k) (hh : ∀ k, byteAt h k j = H k) :
    dotAbs (fun k => q (ix2 i k)) (fun k => h (ix2 k j)) = ∑ k, (Q k * H k).natAbs :=
  Finset.sum_congr rfl fun k _ => congrArg Int.natAbs (congrArg₂ (· * ·) (hq k) (hh k))

/-- The precondition's bound on a product of integers held in floats, as a bound on natural numbers. -/
theorem bound_nat (q : Vec Ideal S10000x10000 .f32) (g : Vec Ideal S10000x128 .f32) (hb : Pre.bounded q g ix0 = 1#1)
    (i : Fin 10000) (j : Fin 128) (Q H : Fin 10000 → ℤ) (hq : ∀ k, elt q i k = ((Q k : ℝ) : EReal)) (hh : ∀ k, elt g k j = ((H k : ℝ) : EReal)) :
    ∑ k, (Q k * H k).natAbs ≤ 2 ^ 26 := by
  have h : (∑ k : Fin 10000, max (elt q i k) (-(elt q i k)) * max (elt g k j) (-(elt g k j)) : EReal) ≤ Ideal.ofBits .f32 0x4C800000#32 :=
    Pre.bounded_read q g hb i j
  simp only [hq, hh, ← EReal.coe_neg, max_coe, ← EReal.coe_mul, sum_coe, cmax, EReal.coe_le_coe_iff] at h
  refine nat_bound Q H (2 ^ 26) ?_
  have e : ((2 ^ 26 : ℕ) : ℝ) = 67108864 := by norm_num
  rw [e]
  exact h

section
variable (a : Vec Ideal S10000x10000 .f32) (A : Fin 10000 → Fin 10000 → ℝ) (ha : ∀ i j, elt a i j = (A i j : EReal))
variable (s : Vec Ideal S10000x128 .f32)

include ha

/-- The kernel's two integer products stay under 2^26. -/
theorem products_bounded
    (hb1 : Pre.bounded (Ref.code a) (Ref.first s (Ref.step (Ref.peak s))) ix0 = 1#1)
    (hb2 : Pre.bounded (Ref.code a) (Ref.second s (Ref.first s (Ref.step (Ref.peak s))) (Ref.step (Ref.peak s))) ix0 = 1#1)
    (i : Fin 10000) (j : Fin 128) :
    dotAbs (fun k => codeArr a (ix2 i k)) (fun k => k1_pay6 (F := Ideal) s (ix2 k j)) ≤ 2 ^ 26 ∧
    dotAbs (fun k => codeArr a (ix2 i k)) (fun k => k1_pay7 (F := Ideal) s (ix2 k j)) ≤ 2 ^ 26 := by
  rcases real_or_top s with hp | hs
  · rw [dotAbs_eq _ _ i j _ _ (kernel_code a A ha i) (fun k => kernel_first_top s hp k j),
      dotAbs_eq _ _ i j _ _ (kernel_code a A ha i) (fun k => kernel_second_top s hp k j)]
    simp
  obtain ⟨P, hP, hp, hB⟩ := peak_real s _ hs
  have hd := ref_step s P hp
  constructor
  · rw [dotAbs_eq _ _ i j _ _ (kernel_code a A ha i) (fun k => kernel_first s _ P hs hP hp hB k j)]
    exact bound_nat _ _ hb1 i j _ _ (ref_code a A ha i) (fun k => ref_first s _ _ P hs hP hd k j)
  · rw [dotAbs_eq _ _ i j _ _ (kernel_code a A ha i) (fun k => kernel_second s _ P hs hP hp k j)]
    exact bound_nat _ _ hb2 i j _ _ (ref_code a A ha i) (fun k => ref_second s _ _ P hs hP hd k j)

/-- The kernel's product term, from its integers and its step, and the reference's, from its floats and its step. -/
theorem results_of_terms
    (hterm : ∀ (i : Fin 10000) (j : Fin 128),
      (((dotInt (fun k => codeArr a (ix2 i k)) (fun k => k1_pay6 (F := Ideal) s (ix2 k j)) : ℝ) : EReal) +
        ((dotInt (fun k => codeArr a (ix2 i k)) (fun k => k1_pay7 (F := Ideal) s (ix2 k j)) : ℝ) : EReal) * ((254⁻¹ : ℝ) : EReal)) *
          (step s * ((254⁻¹ : ℝ) : EReal)) =
      (∑ k : Fin 10000, Ideal.div (elt (Ref.code a) i k) (Ideal.ofBits .f32 0x437E0000#32) *
        (elt (Ref.first s (Ref.step (Ref.peak s))) k j * Ref.step (Ref.peak s) ix0 +
          elt (Ref.second s (Ref.first s (Ref.step (Ref.peak s))) (Ref.step (Ref.peak s))) k j *
            Ideal.div (Ref.step (Ref.peak s) ix0) (Ideal.ofBits .f32 0x437E0000#32)) : EReal)) :
    resultArr (codeArr a) (k1_pay6 (F := Ideal) s) (k1_pay7 (F := Ideal) s) (k1_pay8 (F := Ideal) s) =
      Ref.result (Ref.code a) (Ref.first s (Ref.step (Ref.peak s)))
        (Ref.second s (Ref.first s (Ref.step (Ref.peak s))) (Ref.step (Ref.peak s))) s (Ref.step (Ref.peak s)) := by
  funext x
  obtain ⟨i, j, rfl⟩ : ∃ (i : Fin 10000) (j : Fin 128), x = ix2 i j := ⟨x 0, x 1, eq_ix2 x⟩
  refine Eq.trans ?_ (Ref.result_point _ _ _ s _ i j).symm
  have h := hterm i j
  generalize Ref.second s (Ref.first s (Ref.step (Ref.peak s))) (Ref.step (Ref.peak s)) = g at h ⊢
  generalize Ref.first s (Ref.step (Ref.peak s)) = f at h ⊢
  generalize Ref.code a = q at h ⊢
  show (((dotInt (fun k => codeArr a (ix2 i k)) (fun k => k1_pay6 (F := Ideal) s (ix2 k j)) : ℝ) : EReal) +
      ((dotInt (fun k => codeArr a (ix2 i k)) (fun k => k1_pay7 (F := Ideal) s (ix2 k j)) : ℝ) : EReal) * ((254⁻¹ : ℝ) : EReal)) *
        (k1_pay8 (F := Ideal) s (ix2 1 j) * ((254⁻¹ : ℝ) : EReal)) + k1_pay8 (F := Ideal) s (ix2 0 j) =
    (∑ k : Fin 10000, Ideal.div (elt q i k) (Ideal.ofBits .f32 0x437E0000#32) *
      (elt f k j * Ref.step (Ref.peak s) ix0 + elt g k j * Ideal.div (Ref.step (Ref.peak s) ix0) (Ideal.ofBits .f32 0x437E0000#32)) : EReal) +
      Ideal.ofBits .f32 0x3F000000#32 * ∑ k : Fin 10000, s (ix2 k j)
  rw [step_row, half_sum_row, h]

/-- The kernel's result and the reference's are one array. -/
theorem results_eq :
    resultArr (codeArr a) (k1_pay6 (F := Ideal) s) (k1_pay7 (F := Ideal) s) (k1_pay8 (F := Ideal) s) =
      Ref.result (Ref.code a) (Ref.first s (Ref.step (Ref.peak s)))
        (Ref.second s (Ref.first s (Ref.step (Ref.peak s))) (Ref.step (Ref.peak s))) s (Ref.step (Ref.peak s)) := by
  refine results_of_terms a A ha s fun i j => ?_
  rcases real_or_top s with hp | hs
  · have hd := ref_step_top s hp
    rw [dotInt_eq _ _ i j _ _ (kernel_code a A ha i) (fun k => kernel_first_top s hp k j),
      dotInt_eq _ _ i j _ _ (kernel_code a A ha i) (fun k => kernel_second_top s hp k j)]
    simp only [ref_first_top s _ hd, ref_second_top s _ hd]
    simp
  obtain ⟨P, hP, hp, hB⟩ := peak_real s _ hs
  have hd := ref_step s P hp
  rw [dotInt_eq _ _ i j _ _ (kernel_code a A ha i) (fun k => kernel_first s _ P hs hP hp hB k j),
    dotInt_eq _ _ i j _ _ (kernel_code a A ha i) (fun k => kernel_second s _ P hs hP hp k j), step_real s P hp]
  simp only [ref_code a A ha, ref_first s _ _ P hs hP hd, ref_second s _ _ P hs hP hd]
  rw [hd, c254, div_real _ _ (by norm_num)]
  simp only [div_real _ _ (show (254 : ℝ) ≠ 0 by norm_num), ← EReal.coe_mul, ← EReal.coe_add, sum_coe]
  rw [product_eq]

end

end Cert.Proof

end
-- ==== Proof.Run.lean ====
/- The kernel's run: three regions, one after the other, and where the last one leaves the result. -/
module

public import proofs.«01_k».proof.Proof.Gen.KernelIdeal.Frame

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]
variable (m : (ℓ : Loc nD τ sig) → Buf (Elt F) ℓ) (ρ : Dev nD → PrngReg)

set_option backward.isDefEq.respectTransparency.types false in
/-- Every run of the kernel terminates, and then every buffer of the program's own memory holds what the
    fold through the three regions says: the result what the third region wrote, the arguments what they
    held at launch. -/
theorem kernel_run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ c =>
      have at' (r : Ref sig .tc) (hr : ¬ (Proc.devRef .tc r : DevRef τ sig).isScoped) := h c _ (mem_uc r hr)
      ⟨at' main_v2 (by decide), (at' main_arg0 (by decide)).trans (W3_main_arg0 m ρ c),
       (at' main_arg1 (by decide)).trans (W3_main_arg1 m ρ c), (at' main_arg2 (by decide)).trans (W3_main_arg2 m ρ c),
       (at' main_arg3 (by decide)).trans (W3_main_arg3 m ρ c)⟩)

end Cert.Proof

end
-- ==== Proof.Value.lean ====
/- Under the precondition the kernel ends holding the reference's result of its own arguments. -/
module

public import proofs.«01_k».proof.Proof.Result
public import proofs.«01_k».proof.Proof.Run

@[expose] public section

noncomputable section

namespace Cert.Proof

open Cert.KernelIdeal Cert.KernelIdeal.Gen
open Idealize.ShloMosaic Idealize.ShloMosaic.TcCoe

set_option maxRecDepth 16384

/-- The reference's result, as a function of the four arguments. -/
def refValue (x : Vec Ideal S10000x128 .f32) (a : Vec Ideal S10000x10000 .f32) (w1 w2 : Vec Ideal S128x128 .f32) :
    Vec Ideal S10000x128 .f32 :=
  Ref.result (Ref.code a) (Ref.first (Ref.support x a w1 w2) (Ref.step (Ref.peak (Ref.support x a w1 w2))))
    (Ref.second (Ref.support x a w1 w2) (Ref.first (Ref.support x a w1 w2) (Ref.step (Ref.peak (Ref.support x a w1 w2))))
      (Ref.step (Ref.peak (Ref.support x a w1 w2)))) (Ref.support x a w1 w2) (Ref.step (Ref.peak (Ref.support x a w1 w2)))

/-- What the precondition gives, fact by fact. -/
theorem pre_facts (x : Vec Ideal S10000x128 .f32) (a : Vec Ideal S10000x10000 .f32) (w1 w2 : Vec Ideal S128x128 .f32)
    (h : Cert.Pre_exact_products.fn (F := Ideal) x a w1 w2 = fun _ => 1#1) :
    Pre.finiteNodes x ix0 = 1#1 ∧ Pre.finiteAdj a ix0 = 1#1 ∧ Pre.finiteWeights w1 ix0 = 1#1 ∧
    Pre.bounded (Ref.code a) (Ref.first (Ref.support x a w1 w2) (Ref.step (Ref.peak (Ref.support x a w1 w2)))) ix0 = 1#1 ∧
    Pre.bounded (Ref.code a) (Ref.second (Ref.support x a w1 w2) (Ref.first (Ref.support x a w1 w2) (Ref.step (Ref.peak (Ref.support x a w1 w2))))
      (Ref.step (Ref.peak (Ref.support x a w1 w2)))) ix0 = 1#1 := by
  rw [Pre.pre_stages] at h
  have e := congrFun h ix0
  obtain ⟨e, h6⟩ := IntOp.andi_eq_one.mp e
  obtain ⟨e, h5⟩ := IntOp.andi_eq_one.mp e
  obtain ⟨e, h3⟩ := IntOp.andi_eq_one.mp e
  obtain ⟨h1, h2⟩ := IntOp.andi_eq_one.mp e
  exact ⟨h1, h2, h3, h5, h6⟩

variable (m : (ℓ : Loc nD τ sig) → Buf (Elt Ideal) ℓ) (ρ : Dev nD → PrngReg)

/-- The kernel's result. -/
theorem kernel_value (c : Dev nD)
    (h : Cert.Pre_exact_products.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    W3 m ρ c (Proc.devRef .tc main_v2) = refValue (m ((c.tc : Thread nD τ).loc main_arg0)) (m ((c.tc : Thread nD τ).loc main_arg1))
      (m ((c.tc : Thread nD τ).loc main_arg2)) (m ((c.tc : Thread nD τ).loc main_arg3)) := by
  obtain ⟨hx, ha, h1, hb1, hb2⟩ := pre_facts _ _ _ _ h
  have nx := Pre.nodes_real _ hx
  have na := Pre.adj_real _ ha
  have n1 := Pre.weights_real _ h1
  have hq : W2 m ρ c (Proc.devRef .tc main_v0_1) = codeArr (m ((c.tc : Thread nD τ).loc main_arg1)) :=
    (codes_kept m ρ c).trans (code_at m ρ c)
  have hw : W1 m ρ c (Proc.devRef .tc main_v0_0) = Ref.support (m ((c.tc : Thread nD τ).loc main_arg0)) (m ((c.tc : Thread nD τ).loc main_arg1))
      (m ((c.tc : Thread nD τ).loc main_arg2)) (m ((c.tc : Thread nD τ).loc main_arg3)) :=
    (support_at m ρ c).trans (support_eq _ _ _ _ _ _ _ nx na n1)
  have hf := first_digit_at m ρ c
  have hg := second_digit_at m ρ c
  have hr := rows_at m ρ c
  rw [hw] at hf hg hr
  have hb := products_bounded _ _ na _ hb1 hb2
  rw [result_at m ρ c (by rw [hq, hf]; exact fun i j => (hb i j).1) (by rw [hq, hg]; exact fun i j => (hb i j).2), hq, hf, hg, hr]
  exact results_eq _ _ na _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_exact_products
public import proofs.«01_k».proof.Proof.Value
public import Idealize.ShloMosaic.Lib.Claim
public import Idealize.ShloMosaic.Adequacy
public import Idealize.ShloMosaic.Init

@[expose] public section

noncomputable section

namespace Cert.Proof

open Idealize.ShloMosaic Idealize.SL.Sem

/-- The reference runs, changes no argument, and declares no semaphore. -/
theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The two constants the kernel writes rounded are named for the reals they round. -/
theorem named_constants : Cert.preserves_Kernel_KernelIdeal :=
  ⟨IdealRules.named_const.statement Cert.KernelIdeal.κ "r126" .f32 0x3C020821#32 ((126⁻¹ : ℝ) : EReal) rfl,
   IdealRules.named_const.statement Cert.KernelIdeal.κ "r254" .f32 0x3B810204#32 ((254⁻¹ : ℝ) : EReal) rfl⟩

/-- The reference's result as a function of its arguments. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c =
      refValue (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3)) :=
  Ref.result_stages m c

/-- On the same arguments, under `exact_products`, the two programs end with one result. -/
theorem values_agree : Cert.algebraic_KernelIdeal_ReferenceIdeal_pre_exact_products := by
  intro m g m' g' hpre hagree
  refine ⟨fun c => refValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (kernel_value m g c (hpre c)), (h c).2⟩) (kernel_run (F := Ideal) m g)
  · refine (θ_run Cert.ReferenceIdeal.defs _ _).mono (fun r h c => ⟨(h c).1.trans ?_, (h c).2⟩)
      (Cert.ReferenceIdeal.Value.run (F := Ideal) m' g')
    refine (reference_value m' c).trans ?_
    obtain ⟨e0, e1, e2, e3⟩ := hagree c
    rw [e0, e1, e2, e3]

/-- Everything the certificate claims. -/
theorem claim : Cert.Claim :=
  ⟨Cert.Kernel.Gen.facts, Cert.KernelIdeal.Gen.facts, Cert.ReferenceIdeal.Gen.facts, Cert.Pre_exact_products.Gen.facts,
    fun m g _ => Cert.Kernel.Gen.frame m g, fun m g _ => Cert.KernelIdeal.Gen.frame m g, fun m g _ => Cert.KernelIdeal.Gen.frame m g,
    reference_frame, fun m g _ => reference_frame m g trivial, named_constants, values_agree⟩

end Cert.Proof

end
